-- ==== Defs.lean ====
def Pre_Kernel (m : (ℓ : Loc Cert.Kernel.nD Cert.Kernel.τ Cert.Kernel.sig) → Buf (Elt Bits) ℓ) : Prop :=
  True

def Pre_Kernel_no_tie_Kernel [hPre_no_tie_Kernel : Cert.Pre_no_tie_Kernel.Facts] (m : (ℓ : Loc Cert.Kernel.nD Cert.Kernel.τ Cert.Kernel.sig) → Buf (Elt Bits) ℓ) : Prop :=
  ∀ c : Dev Cert.Kernel.nD,
    (Cert.Pre_no_tie_Kernel.fn (F := Bits) (m ((c.tc : Thread Cert.Kernel.nD Cert.Kernel.τ).loc Cert.Kernel.main_arg0))) = (fun _ => 1#1)

def Pre_KernelIdeal [hPre_no_tie_Kernel : Cert.Pre_no_tie_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_Kernel.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_ReferenceIdeal [hPre_no_tie_ReferenceIdeal : Cert.Pre_no_tie_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_no_tie_Kernel [hKernel : Cert.Kernel.Facts] [hPre_no_tie_Kernel : Cert.Pre_no_tie_Kernel.Facts] : Prop :=
  ∀ (m : (ℓ : Loc Cert.Kernel.nD Cert.Kernel.τ Cert.Kernel.sig) → Buf (Elt Bits) ℓ) (g : Dev Cert.Kernel.nD → PrngReg), Pre_Kernel_no_tie_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_tie_ReferenceIdeal [hReferenceIdeal : Cert.ReferenceIdeal.Facts] [hPre_no_tie_ReferenceIdeal : Cert.Pre_no_tie_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie_Kernel : Cert.Pre_no_tie_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_tie_Kernel : Cert.Pre_no_tie_Kernel.Facts) (hPre_no_tie_ReferenceIdeal : Cert.Pre_no_tie_ReferenceIdeal.Facts),
    quiescent_Kernel (hKernel := hKernel)
    ∧ quiescent_Kernel_pre_no_tie_Kernel (hKernel := hKernel) (hPre_no_tie_Kernel := hPre_no_tie_Kernel)
    ∧ quiescent_KernelIdeal (hKernelIdeal := hKernelIdeal) (hPre_no_tie_Kernel := hPre_no_tie_Kernel)
    ∧ quiescent_ReferenceIdeal (hReferenceIdeal := hReferenceIdeal)
    ∧ quiescent_ReferenceIdeal_pre_no_tie_ReferenceIdeal (hReferenceIdeal := hReferenceIdeal) (hPre_no_tie_ReferenceIdeal := hPre_no_tie_ReferenceIdeal)
    ∧ preserves_Kernel_KernelIdeal
    ∧ algebraic_KernelIdeal_ReferenceIdeal (hKernelIdeal := hKernelIdeal) (hReferenceIdeal := hReferenceIdeal) (hPre_no_tie_Kernel := hPre_no_tie_Kernel)
-- ==== Pre_no_tie_Kernel.lean ====
abbrev S4096x1024 : Shape := ⟨2, ![4096, 1024]⟩
abbrev S4x1024x1024 : Shape := ⟨3, ![4, 1024, 1024]⟩
abbrev S_ : Shape := ⟨0, ![]⟩
abbrev S4x1024 : Shape := ⟨2, ![4, 1024]⟩
abbrev S4x1x1024 : Shape := ⟨3, ![4, 1, 1024]⟩

class Facts : Prop where
  shapeCasts_S4096x1024_S4x1024x1024 : S4096x1024.ShapeCasts S4x1024x1024
  reducesTo_S4x1024x1024_S4x1024_d1 : S4x1024x1024.ReducesTo [1] S4x1024
  h_S_ : 0 < S_.numel
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  natLt_1_32 : 1 < 32
  bcast_S_S4x1x1024 : S_.BroadcastsInDim S4x1x1024 (![] : Fin 0 → Fin S4x1x1024.rank)

variable [Facts]

def fn {F : FTy → Type} [FloatOps F] (main_arg0 : FVec F S4096x1024 .f32) : IVec S4x1x1024 1 :=
  let main_v0 : FVec F S4x1024x1024 .f32 := shapeCast S4x1024x1024 main_arg0 shapeCasts_S4096x1024_S4x1024x1024
  let main_cst : FVec F S_ .f32 := constant S_ .f32 0xFF800000#32
  let main_v1 : FVec F S4x1024 .f32 := (fun x v => Host.reduce FloatOps.maximumf x v reducesTo_S4x1024x1024_S4x1024_d1 h_S_) main_v0 main_cst
  let main_v2 : FVec F S4x1x1024 .f32 := broadcastInDim S4x1x1024 ![0, 2] bcast_S4x1024_S4x1x1024_0_2 main_v1
  let main_v3 : FVec F S4x1024x1024 .f32 := broadcastInDim S4x1024x1024 ![0, 1, 2] bcast_S4x1x1024_S4x1024x1024_0_1_2 main_v2
  let main_v4 : IVec S4x1024x1024 1 := cmpf .oeq main_v0 main_v3
  let main_v5 : IVec S4x1024x1024 32 := (extui 32 · natLt_1_32) main_v4
  let main_c : IVec S_ 32 := constantI S_ 32 0#32
  let main_v6 : IVec S4x1024 32 := (fun x v => Host.reduce IntOp.addi x v reducesTo_S4x1024x1024_S4x1024_d1 h_S_) main_v5 main_c
  let main_v7 : IVec S4x1x1024 32 := broadcastInDim S4x1x1024 ![0, 2] bcast_S4x1024_S4x1x1024_0_2 main_v6
  let main_c_0 : IVec S_ 32 := constantI S_ 32 1#32
  let main_v8 : IVec S4x1x1024 32 := broadcastInDim S4x1x1024 ![] bcast_S_S4x1x1024 main_c_0
  let main_v9 : IVec S4x1x1024 1 := cmpi .eq main_v7 main_v8
  main_v9
-- ==== Pre_no_tie_ReferenceIdeal.lean ====
abbrev S65536x1024 : Shape := ⟨2, ![65536, 1024]⟩
abbrev S64x1024x1024 : Shape := ⟨3, ![64, 1024, 1024]⟩
abbrev S_ : Shape := ⟨0, ![]⟩
abbrev S64x1024 : Shape := ⟨2, ![64, 1024]⟩
abbrev S64x1x1024 : Shape := ⟨3, ![64, 1, 1024]⟩

class Facts : Prop where
  shapeCasts_S65536x1024_S64x1024x1024 : S65536x1024.ShapeCasts S64x1024x1024
  reducesTo_S64x1024x1024_S64x1024_d1 : S64x1024x1024.ReducesTo [1] S64x1024
  h_S_ : 0 < S_.numel
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  natLt_1_32 : 1 < 32
  bcast_S_S64x1x1024 : S_.BroadcastsInDim S64x1x1024 (![] : Fin 0 → Fin S64x1x1024.rank)

variable [Facts]

def fn {F : FTy → Type} [FloatOps F] (main_arg0 : FVec F S65536x1024 .f32) : IVec S64x1x1024 1 :=
  let main_v0 : FVec F S64x1024x1024 .f32 := shapeCast S64x1024x1024 main_arg0 shapeCasts_S65536x1024_S64x1024x1024
  let main_cst : FVec F S_ .f32 := constant S_ .f32 0xFF800000#32
  let main_v1 : FVec F S64x1024 .f32 := (fun x v => Host.reduce FloatOps.maximumf x v reducesTo_S64x1024x1024_S64x1024_d1 h_S_) main_v0 main_cst
  let main_v2 : FVec F S64x1x1024 .f32 := broadcastInDim S64x1x1024 ![0, 2] bcast_S64x1024_S64x1x1024_0_2 main_v1
  let main_v3 : FVec F S64x1024x1024 .f32 := broadcastInDim S64x1024x1024 ![0, 1, 2] bcast_S64x1x1024_S64x1024x1024_0_1_2 main_v2
  let main_v4 : IVec S64x1024x1024 1 := cmpf .oeq main_v0 main_v3
  let main_v5 : IVec S64x1024x1024 32 := (extui 32 · natLt_1_32) main_v4
  let main_c : IVec S_ 32 := constantI S_ 32 0#32
  let main_v6 : IVec S64x1024 32 := (fun x v => Host.reduce IntOp.addi x v reducesTo_S64x1024x1024_S64x1024_d1 h_S_) main_v5 main_c
  let main_v7 : IVec S64x1x1024 32 := broadcastInDim S64x1x1024 ![0, 2] bcast_S64x1024_S64x1x1024_0_2 main_v6
  let main_c_0 : IVec S_ 32 := constantI S_ 32 1#32
  let main_v8 : IVec S64x1x1024 32 := broadcastInDim S64x1x1024 ![] bcast_S_S64x1x1024 main_c_0
  let main_v9 : IVec S64x1x1024 1 := cmpi .eq main_v7 main_v8
  main_v9
-- ==== Kernel.lean ====
abbrev S4096x1024 : Shape := ⟨2, ![4096, 1024]⟩
abbrev S2x1024 : Shape := ⟨2, ![2, 1024]⟩
abbrev S1024x1024 : Shape := ⟨2, ![1024, 1024]⟩
abbrev S1x1024 : Shape := ⟨2, ![1, 1024]⟩
abbrev S16x2x1024 : Shape := ⟨3, ![16, 2, 1024]⟩
abbrev S15 : Shape := ⟨1, ![15]⟩
abbrev S_ : Shape := ⟨0, ![]⟩
abbrev S1024 : Shape := ⟨1, ![1024]⟩
abbrev S1x1x1024 : Shape := ⟨3, ![1, 1, 1024]⟩
abbrev S1 : Shape := ⟨1, ![1]⟩
abbrev S1x2x1024 : Shape := ⟨3, ![1, 2, 1024]⟩
abbrev S16x1x1024 : Shape := ⟨3, ![16, 1, 1024]⟩
abbrev S16x1024 : Shape := ⟨2, ![16, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1x1024, .f32⟩
  | .local _ .vmem, ⟨4, _⟩ => ⟨S1x1024, .i32⟩
  | .local _ .vmem, ⟨5, _⟩ => ⟨S16x2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v23 : BitVec 32 := Scalar.addi v2 c1_i32_7
  let c16_i32_8 : BitVec 32 := 16#32
  let c0_i32_9 : BitVec 32 := 0#32
  let v24 : BitVec 1 := Scalar.cmpi .eq c16_i32_8 c0_i32_9
  let c1_i32_10 : BitVec 32 := 1#32
  let v25 : BitVec 32 := Scalar.select v24 c1_i32_10 c16_i32_8
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c1_i32_15 : BitVec 32 := 1#32
  let v34 : BitVec 32 := Scalar.muli v33 c1_i32_15
  let v35 : BitVec 32 := Scalar.addi c0_i32_16 v34
  v35.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v36 : BitVec 32 := Scalar.addi v2 c2_i32
  let c16_i32_17 : BitVec 32 := 16#32
  let c0_i32_18 : BitVec 32 := 0#32
  let v37 : BitVec 1 := Scalar.cmpi .eq c16_i32_17 c0_i32_18
  let c1_i32_19 : BitVec 32 := 1#32
  let v38 : BitVec 32 := Scalar.select v37 c1_i32_19 c16_i32_17
  let v39 : BitVec 32 := Scalar.remsi v36 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c1_i32_24 : BitVec 32 := 1#32
  let v47 : BitVec 32 := Scalar.muli v46 c1_i32_24
  let v48 : BitVec 32 := Scalar.addi c0_i32_25 v47
  v48.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_26 : BitVec 32 := 3#32
  let v49 : BitVec 32 := Scalar.addi v2 c3_i32_26
  let c16_i32_27 : BitVec 32 := 16#32
  let c0_i32_28 : BitVec 32 := 0#32
  let v50 : BitVec 1 := Scalar.cmpi .eq c16_i32_27 c0_i32_28
  let c1_i32_29 : BitVec 32 := 1#32
  let v51 : BitVec 32 := Scalar.select v50 c1_i32_29 c16_i32_27
  let v52 : BitVec 32 := Scalar.remsi v49 v51
  let c0_i32_31 : BitVec 32 := 0#32
  let v54 : BitVec 1 := Scalar.cmpi .slt v52 c0_i32_31
  let c0_i32_32 : BitVec 32 := 0#32
  let v55 : BitVec 1 := Scalar.cmpi .slt v51 c0_i32_32
  let v56 : BitVec 1 := Scalar.xori v54 v55
  let c0_i32_30 : BitVec 32 := 0#32
  let v53 : BitVec 1 := Scalar.cmpi .ne v52 c0_i32_30
  let v57 : BitVec 1 := Scalar.andi v56 v53
  let v58 : BitVec 32 := Scalar.addi v52 v51
  let v59 : BitVec 32 := Scalar.select v57 v58 v52
  let c1_i32_34 : BitVec 32 := 1#32
  let v60 : BitVec 32 := Scalar.muli v59 c1_i32_34
  let v61 : BitVec 32 := Scalar.addi c0_i32_35 v60
  v61.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v62 : BitVec 32 := Scalar.addi v2 c4_i32
  let c16_i32_36 : BitVec 32 := 16#32
  let c0_i32_37 : BitVec 32 := 0#32
  let v63 : BitVec 1 := Scalar.cmpi .eq c16_i32_36 c0_i32_37
  let c1_i32_38 : BitVec 32 := 1#32
  let v64 : BitVec 32 := Scalar.select v63 c1_i32_38 c16_i32_36
  let v65 : BitVec 32 := Scalar.remsi v62 v64
  let c0_i32_40 : BitVec 32 := 0#32
  let v67 : BitVec 1 := Scalar.cmpi .slt v65 c0_i32_40
  let c0_i32_41 : BitVec 32 := 0#32
  let v68 : BitVec 1 := Scalar.cmpi .slt v64 c0_i32_41
  let v69 : BitVec 1 := Scalar.xori v67 v68
  let c0_i32_39 : BitVec 32 := 0#32
  let v66 : BitVec 1 := Scalar.cmpi .ne v65 c0_i32_39
  let v70 : BitVec 1 := Scalar.andi v69 v66
  let v71 : BitVec 32 := Scalar.addi v65 v64
  let v72 : BitVec 32 := Scalar.select v70 v71 v65
  let c1_i32_43 : BitVec 32 := 1#32
  let v73 : BitVec 32 := Scalar.muli v72 c1_i32_43
  let v74 : BitVec 32 := Scalar.addi c0_i32_44 v73
  v74.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v75 : BitVec 32 := Scalar.addi v2 c5_i32
  let c16_i32_45 : BitVec 32 := 16#32
  let c0_i32_46 : BitVec 32 := 0#32
  let v76 : BitVec 1 := Scalar.cmpi .eq c16_i32_45 c0_i32_46
  let c1_i32_47 : BitVec 32 := 1#32
  let v77 : BitVec 32 := Scalar.select v76 c1_i32_47 c16_i32_45
  let v78 : BitVec 32 := Scalar.remsi v75 v77
  let c0_i32_49 : BitVec 32 := 0#32
  let v80 : BitVec 1 := Scalar.cmpi .slt v78 c0_i32_49
  let c0_i32_50 : BitVec 32 := 0#32
  let v81 : BitVec 1 := Scalar.cmpi .slt v77 c0_i32_50
  let v82 : BitVec 1 := Scalar.xori v80 v81
  let c0_i32_48 : BitVec 32 := 0#32
  let v79 : BitVec 1 := Scalar.cmpi .ne v78 c0_i32_48
  let v83 : BitVec 1 := Scalar.andi v82 v79
  let v84 : BitVec 32 := Scalar.addi v78 v77
  let v85 : BitVec 32 := Scalar.select v83 v84 v78
  let c1_i32_52 : BitVec 32 := 1#32
  let v86 : BitVec 32 := Scalar.muli v85 c1_i32_52
  let v87 : BitVec 32 := Scalar.addi c0_i32_53 v86
  v87.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v88 : BitVec 32 := Scalar.addi v2 c6_i32
  let c16_i32_54 : BitVec 32 := 16#32
  let c0_i32_55 : BitVec 32 := 0#32
  let v89 : BitVec 1 := Scalar.cmpi .eq c16_i32_54 c0_i32_55
  let c1_i32_56 : BitVec 32 := 1#32
  let v90 : BitVec 32 := Scalar.select v89 c1_i32_56 c16_i32_54
  let v91 : BitVec 32 := Scalar.remsi v88 v90
  let c0_i32_58 : BitVec 32 := 0#32
  let v93 : BitVec 1 := Scalar.cmpi .slt v91 c0_i32_58
  let c0_i32_59 : BitVec 32 := 0#32
  let v94 : BitVec 1 := Scalar.cmpi .slt v90 c0_i32_59
  let v95 : BitVec 1 := Scalar.xori v93 v94
  let c0_i32_57 : BitVec 32 := 0#32
  let v92 : BitVec 1 := Scalar.cmpi .ne v91 c0_i32_57
  let v96 : BitVec 1 := Scalar.andi v95 v92
  let v97 : BitVec 32 := Scalar.addi v91 v90
  let v98 : BitVec 32 := Scalar.select v96 v97 v91
  let c1_i32_61 : BitVec 32 := 1#32
  let v99 : BitVec 32 := Scalar.muli v98 c1_i32_61
  let v100 : BitVec 32 := Scalar.addi c0_i32_62 v99
  v100.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v101 : BitVec 32 := Scalar.addi v2 c7_i32
  let c16_i32_63 : BitVec 32 := 16#32
  let c0_i32_64 : BitVec 32 := 0#32
  let v102 : BitVec 1 := Scalar.cmpi .eq c16_i32_63 c0_i32_64
  let c1_i32_65 : BitVec 32 := 1#32
  let v103 : BitVec 32 := Scalar.select v102 c1_i32_65 c16_i32_63
  let v104 : BitVec 32 := Scalar.remsi v101 v103
  let c0_i32_67 : BitVec 32 := 0#32
  let v106 : BitVec 1 := Scalar.cmpi .slt v104 c0_i32_67
  let c0_i32_68 : BitVec 32 := 0#32
  let v107 : BitVec 1 := Scalar.cmpi .slt v103 c0_i32_68
  let v108 : BitVec 1 := Scalar.xori v106 v107
  let c0_i32_66 : BitVec 32 := 0#32
  let v105 : BitVec 1 := Scalar.cmpi .ne v104 c0_i32_66
  let v109 : BitVec 1 := Scalar.andi v108 v105
  let v110 : BitVec 32 := Scalar.addi v104 v103
  let v111 : BitVec 32 := Scalar.select v109 v110 v104
  let c1_i32_70 : BitVec 32 := 1#32
  let v112 : BitVec 32 := Scalar.muli v111 c1_i32_70
  let v113 : BitVec 32 := Scalar.addi c0_i32_71 v112
  v113.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v114 : BitVec 32 := Scalar.addi v2 c8_i32
  let c16_i32_72 : BitVec 32 := 16#32
  let c0_i32_73 : BitVec 32 := 0#32
  let v115 : BitVec 1 := Scalar.cmpi .eq c16_i32_72 c0_i32_73
  let c1_i32_74 : BitVec 32 := 1#32
  let v116 : BitVec 32 := Scalar.select v115 c1_i32_74 c16_i32_72
  let v117 : BitVec 32 := Scalar.remsi v114 v116
  let c0_i32_76 : BitVec 32 := 0#32
  let v119 : BitVec 1 := Scalar.cmpi .slt v117 c0_i32_76
  let c0_i32_77 : BitVec 32 := 0#32
  let v120 : BitVec 1 := Scalar.cmpi .slt v116 c0_i32_77
  let v121 : BitVec 1 := Scalar.xori v119 v120
  let c0_i32_75 : BitVec 32 := 0#32
  let v118 : BitVec 1 := Scalar.cmpi .ne v117 c0_i32_75
  let v122 : BitVec 1 := Scalar.andi v121 v118
  let v123 : BitVec 32 := Scalar.addi v117 v116
  let v124 : BitVec 32 := Scalar.select v122 v123 v117
  let c1_i32_79 : BitVec 32 := 1#32
  let v125 : BitVec 32 := Scalar.muli v124 c1_i32_79
  let v126 : BitVec 32 := Scalar.addi c0_i32_80 v125
  v126.toNat
def k0_dev9 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v127 : BitVec 32 := Scalar.addi v2 c9_i32
  let c16_i32_81 : BitVec 32 := 16#32
  let c0_i32_82 : BitVec 32 := 0#32
  let v128 : BitVec 1 := Scalar.cmpi .eq c16_i32_81 c0_i32_82
  let c1_i32_83 : BitVec 32 := 1#32
  let v129 : BitVec 32 := Scalar.select v128 c1_i32_83 c16_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let c1_i32_88 : BitVec 32 := 1#32
  let v138 : BitVec 32 := Scalar.muli v137 c1_i32_88
  let v139 : BitVec 32 := Scalar.addi c0_i32_89 v138
  v139.toNat
def k0_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v140 : BitVec 32 := Scalar.addi v2 c10_i32
  let c16_i32_90 : BitVec 32 := 16#32
  let c0_i32_91 : BitVec 32 := 0#32
  let v141 : BitVec 1 := Scalar.cmpi .eq c16_i32_90 c0_i32_91
  let c1_i32_92 : BitVec 32 := 1#32
  let v142 : BitVec 32 := Scalar.select v141 c1_i32_92 c16_i32_90
  let v143 : BitVec 32 := Scalar.remsi v140 v142
  let c0_i32_94 : BitVec 32 := 0#32
  let v145 : BitVec 1 := Scalar.cmpi .slt v143 c0_i32_94
  let c0_i32_95 : BitVec 32 := 0#32
  let v146 : BitVec 1 := Scalar.cmpi .slt v142 c0_i32_95
  let v147 : BitVec 1 := Scalar.xori v145 v146
  let c0_i32_93 : BitVec 32 := 0#32
  let v144 : BitVec 1 := Scalar.cmpi .ne v143 c0_i32_93
  let v148 : BitVec 1 := Scalar.andi v147 v144
  let v149 : BitVec 32 := Scalar.addi v143 v142
  let v150 : BitVec 32 := Scalar.select v148 v149 v143
  let c1_i32_97 : BitVec 32 := 1#32
  let v151 : BitVec 32 := Scalar.muli v150 c1_i32_97
  let v152 : BitVec 32 := Scalar.addi c0_i32_98 v151
  v152.toNat
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v153 : BitVec 32 := Scalar.addi v2 c11_i32
  let c16_i32_99 : BitVec 32 := 16#32
  let c0_i32_100 : BitVec 32 := 0#32
  let v154 : BitVec 1 := Scalar.cmpi .eq c16_i32_99 c0_i32_100
  let c1_i32_101 : BitVec 32 := 1#32
  let v155 : BitVec 32 := Scalar.select v154 c1_i32_101 c16_i32_99
  let v156 : BitVec 32 := Scalar.remsi v153 v155
  let c0_i32_103 : BitVec 32 := 0#32
  let v158 : BitVec 1 := Scalar.cmpi .slt v156 c0_i32_103
  let c0_i32_104 : BitVec 32 := 0#32
  let v159 : BitVec 1 := Scalar.cmpi .slt v155 c0_i32_104
  let v160 : BitVec 1 := Scalar.xori v158 v159
  let c0_i32_102 : BitVec 32 := 0#32
  let v157 : BitVec 1 := Scalar.cmpi .ne v156 c0_i32_102
  let v161 : BitVec 1 := Scalar.andi v160 v157
  let v162 : BitVec 32 := Scalar.addi v156 v155
  let v163 : BitVec 32 := Scalar.select v161 v162 v156
  let c1_i32_106 : BitVec 32 := 1#32
  let v164 : BitVec 32 := Scalar.muli v163 c1_i32_106
  let v165 : BitVec 32 := Scalar.addi c0_i32_107 v164
  v165.toNat
def k0_dev12 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v166 : BitVec 32 := Scalar.addi v2 c12_i32
  let c16_i32_108 : BitVec 32 := 16#32
  let c0_i32_109 : BitVec 32 := 0#32
  let v167 : BitVec 1 := Scalar.cmpi .eq c16_i32_108 c0_i32_109
  let c1_i32_110 : BitVec 32 := 1#32
  let v168 : BitVec 32 := Scalar.select v167 c1_i32_110 c16_i32_108
  let v169 : BitVec 32 := Scalar.remsi v166 v168
  let c0_i32_112 : BitVec 32 := 0#32
  let v171 : BitVec 1 := Scalar.cmpi .slt v169 c0_i32_112
  let c0_i32_113 : BitVec 32 := 0#32
  let v172 : BitVec 1 := Scalar.cmpi .slt v168 c0_i32_113
  let v173 : BitVec 1 := Scalar.xori v171 v172
  let c0_i32_111 : BitVec 32 := 0#32
  let v170 : BitVec 1 := Scalar.cmpi .ne v169 c0_i32_111
  let v174 : BitVec 1 := Scalar.andi v173 v170
  let v175 : BitVec 32 := Scalar.addi v169 v168
  let v176 : BitVec 32 := Scalar.select v174 v175 v169
  let c1_i32_115 : BitVec 32 := 1#32
  let v177 : BitVec 32 := Scalar.muli v176 c1_i32_115
  let v178 : BitVec 32 := Scalar.addi c0_i32_116 v177
  v178.toNat
def k0_dev13 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v179 : BitVec 32 := Scalar.addi v2 c13_i32
  let c16_i32_117 : BitVec 32 := 16#32
  let c0_i32_118 : BitVec 32 := 0#32
  let v180 : BitVec 1 := Scalar.cmpi .eq c16_i32_117 c0_i32_118
  let c1_i32_119 : BitVec 32 := 1#32
  let v181 : BitVec 32 := Scalar.select v180 c1_i32_119 c16_i32_117
  let v182 : BitVec 32 := Scalar.remsi v179 v181
  let c0_i32_121 : BitVec 32 := 0#32
  let v184 : BitVec 1 := Scalar.cmpi .slt v182 c0_i32_121
  let c0_i32_122 : BitVec 32 := 0#32
  let v185 : BitVec 1 := Scalar.cmpi .slt v181 c0_i32_122
  let v186 : BitVec 1 := Scalar.xori v184 v185
  let c0_i32_120 : BitVec 32 := 0#32
  let v183 : BitVec 1 := Scalar.cmpi .ne v182 c0_i32_120
  let v187 : BitVec 1 := Scalar.andi v186 v183
  let v188 : BitVec 32 := Scalar.addi v182 v181
  let v189 : BitVec 32 := Scalar.select v187 v188 v182
  let c1_i32_124 : BitVec 32 := 1#32
  let v190 : BitVec 32 := Scalar.muli v189 c1_i32_124
  let v191 : BitVec 32 := Scalar.addi c0_i32_125 v190
  v191.toNat
def k0_dev14 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v192 : BitVec 32 := Scalar.addi v2 c14_i32
  let c16_i32_126 : BitVec 32 := 16#32
  let c0_i32_127 : BitVec 32 := 0#32
  let v193 : BitVec 1 := Scalar.cmpi .eq c16_i32_126 c0_i32_127
  let c1_i32_128 : BitVec 32 := 1#32
  let v194 : BitVec 32 := Scalar.select v193 c1_i32_128 c16_i32_126
  let v195 : BitVec 32 := Scalar.remsi v192 v194
  let c0_i32_130 : BitVec 32 := 0#32
  let v197 : BitVec 1 := Scalar.cmpi .slt v195 c0_i32_130
  let c0_i32_131 : BitVec 32 := 0#32
  let v198 : BitVec 1 := Scalar.cmpi .slt v194 c0_i32_131
  let v199 : BitVec 1 := Scalar.xori v197 v198
  let c0_i32_129 : BitVec 32 := 0#32
  let v196 : BitVec 1 := Scalar.cmpi .ne v195 c0_i32_129
  let v200 : BitVec 1 := Scalar.andi v199 v196
  let v201 : BitVec 32 := Scalar.addi v195 v194
  let v202 : BitVec 32 := Scalar.select v200 v201 v195
  let c1_i32_133 : BitVec 32 := 1#32
  let v203 : BitVec 32 := Scalar.muli v202 c1_i32_133
  let v204 : BitVec 32 := Scalar.addi c0_i32_134 v203
  v204.toNat
def k0_dev15 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v205 : BitVec 32 := Scalar.addi v2 c15_i32
  let c16_i32_135 : BitVec 32 := 16#32
  let c0_i32_136 : BitVec 32 := 0#32
  let v206 : BitVec 1 := Scalar.cmpi .eq c16_i32_135 c0_i32_136
  let c1_i32_137 : BitVec 32 := 1#32
  let v207 : BitVec 32 := Scalar.select v206 c1_i32_137 c16_i32_135
  let v208 : BitVec 32 := Scalar.remsi v205 v207
  let c0_i32_139 : BitVec 32 := 0#32
  let v210 : BitVec 1 := Scalar.cmpi .slt v208 c0_i32_139
  let c0_i32_140 : BitVec 32 := 0#32
  let v211 : BitVec 1 := Scalar.cmpi .slt v207 c0_i32_140
  let v212 : BitVec 1 := Scalar.xori v210 v211
  let c0_i32_138 : BitVec 32 := 0#32
  let v209 : BitVec 1 := Scalar.cmpi .ne v208 c0_i32_138
  let v213 : BitVec 1 := Scalar.andi v212 v209
  let v214 : BitVec 32 := Scalar.addi v208 v207
  let v215 : BitVec 32 := Scalar.select v213 v214 v208
  let c1_i32_142 : BitVec 32 := 1#32
  let v216 : BitVec 32 := Scalar.muli v215 c1_i32_142
  let v217 : BitVec 32 := Scalar.addi c0_i32_143 v216
  v217.toNat
def k0_cond4 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_6 : BitVec 32 := 0#32
  let v22 : BitVec 1 := Scalar.cmpi .ne v21 c0_i32_6
  v22

def k0_dev16 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v37 : BitVec 32 := Scalar.addi v2 c1_i32_16
  let c16_i32_17 : BitVec 32 := 16#32
  let c0_i32_18 : BitVec 32 := 0#32
  let v38 : BitVec 1 := Scalar.cmpi .eq c16_i32_17 c0_i32_18
  let c1_i32_19 : BitVec 32 := 1#32
  let v39 : BitVec 32 := Scalar.select v38 c1_i32_19 c16_i32_17
  let v40 : BitVec 32 := Scalar.remsi v37 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1_i32_27 : BitVec 32 := 1#32
  let v48 : BitVec 32 := Scalar.muli v47 c1_i32_27
  let v49 : BitVec 32 := Scalar.addi c0_i32_28 v48
  v49.toNat
def k0_dev17 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v58 : BitVec 32 := Scalar.addi v2 c2_i32
  let c16_i32_33 : BitVec 32 := 16#32
  let c0_i32_34 : BitVec 32 := 0#32
  let v59 : BitVec 1 := Scalar.cmpi .eq c16_i32_33 c0_i32_34
  let c1_i32_35 : BitVec 32 := 1#32
  let v60 : BitVec 32 := Scalar.select v59 c1_i32_35 c16_i32_33
  let v61 : BitVec 32 := Scalar.remsi v58 v60
  let c0_i32_37 : BitVec 32 := 0#32
  let v63 : BitVec 1 := Scalar.cmpi .slt v61 c0_i32_37
  let c0_i32_38 : BitVec 32 := 0#32
  let v64 : BitVec 1 := Scalar.cmpi .slt v60 c0_i32_38
  let v65 : BitVec 1 := Scalar.xori v63 v64
  let c0_i32_36 : BitVec 32 := 0#32
  let v62 : BitVec 1 := Scalar.cmpi .ne v61 c0_i32_36
  let v66 : BitVec 1 := Scalar.andi v65 v62
  let v67 : BitVec 32 := Scalar.addi v61 v60
  let v68 : BitVec 32 := Scalar.select v66 v67 v61
  let c1_i32_43 : BitVec 32 := 1#32
  let v69 : BitVec 32 := Scalar.muli v68 c1_i32_43
  let v70 : BitVec 32 := Scalar.addi c0_i32_44 v69
  v70.toNat
def k0_dev18 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_49 : BitVec 32 := 3#32
  let v79 : BitVec 32 := Scalar.addi v2 c3_i32_49
  let c16_i32_50 : BitVec 32 := 16#32
  let c0_i32_51 : BitVec 32 := 0#32
  let v80 : BitVec 1 := Scalar.cmpi .eq c16_i32_50 c0_i32_51
  let c1_i32_52 : BitVec 32 := 1#32
  let v81 : BitVec 32 := Scalar.select v80 c1_i32_52 c16_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1_i32_60 : BitVec 32 := 1#32
  let v90 : BitVec 32 := Scalar.muli v89 c1_i32_60
  let v91 : BitVec 32 := Scalar.addi c0_i32_61 v90
  v91.toNat
def k0_dev19 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v100 : BitVec 32 := Scalar.addi v2 c4_i32
  let c16_i32_66 : BitVec 32 := 16#32
  let c0_i32_67 : BitVec 32 := 0#32
  let v101 : BitVec 1 := Scalar.cmpi .eq c16_i32_66 c0_i32_67
  let c1_i32_68 : BitVec 32 := 1#32
  let v102 : BitVec 32 := Scalar.select v101 c1_i32_68 c16_i32_66
  let v103 : BitVec 32 := Scalar.remsi v100 v102
  let c0_i32_70 : BitVec 32 := 0#32
  let v105 : BitVec 1 := Scalar.cmpi .slt v103 c0_i32_70
  let c0_i32_71 : BitVec 32 := 0#32
  let v106 : BitVec 1 := Scalar.cmpi .slt v102 c0_i32_71
  let v107 : BitVec 1 := Scalar.xori v105 v106
  let c0_i32_69 : BitVec 32 := 0#32
  let v104 : BitVec 1 := Scalar.cmpi .ne v103 c0_i32_69
  let v108 : BitVec 1 := Scalar.andi v107 v104
  let v109 : BitVec 32 := Scalar.addi v103 v102
  let v110 : BitVec 32 := Scalar.select v108 v109 v103
  let c1_i32_76 : BitVec 32 := 1#32
  let v111 : BitVec 32 := Scalar.muli v110 c1_i32_76
  let v112 : BitVec 32 := Scalar.addi c0_i32_77 v111
  v112.toNat
def k0_dev20 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v121 : BitVec 32 := Scalar.addi v2 c5_i32
  let c16_i32_82 : BitVec 32 := 16#32
  let c0_i32_83 : BitVec 32 := 0#32
  let v122 : BitVec 1 := Scalar.cmpi .eq c16_i32_82 c0_i32_83
  let c1_i32_84 : BitVec 32 := 1#32
  let v123 : BitVec 32 := Scalar.select v122 c1_i32_84 c16_i32_82
  let v124 : BitVec 32 := Scalar.remsi v121 v123
  let c0_i32_86 : BitVec 32 := 0#32
  let v126 : BitVec 1 := Scalar.cmpi .slt v124 c0_i32_86
  let c0_i32_87 : BitVec 32 := 0#32
  let v127 : BitVec 1 := Scalar.cmpi .slt v123 c0_i32_87
  let v128 : BitVec 1 := Scalar.xori v126 v127
  let c0_i32_85 : BitVec 32 := 0#32
  let v125 : BitVec 1 := Scalar.cmpi .ne v124 c0_i32_85
  let v129 : BitVec 1 := Scalar.andi v128 v125
  let v130 : BitVec 32 := Scalar.addi v124 v123
  let v131 : BitVec 32 := Scalar.select v129 v130 v124
  let c1_i32_92 : BitVec 32 := 1#32
  let v132 : BitVec 32 := Scalar.muli v131 c1_i32_92
  let v133 : BitVec 32 := Scalar.addi c0_i32_93 v132
  v133.toNat
def k0_dev21 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v142 : BitVec 32 := Scalar.addi v2 c6_i32
  let c16_i32_98 : BitVec 32 := 16#32
  let c0_i32_99 : BitVec 32 := 0#32
  let v143 : BitVec 1 := Scalar.cmpi .eq c16_i32_98 c0_i32_99
  let c1_i32_100 : BitVec 32 := 1#32
  let v144 : BitVec 32 := Scalar.select v143 c1_i32_100 c16_i32_98
  let v145 : BitVec 32 := Scalar.remsi v142 v144
  let c0_i32_102 : BitVec 32 := 0#32
  let v147 : BitVec 1 := Scalar.cmpi .slt v145 c0_i32_102
  let c0_i32_103 : BitVec 32 := 0#32
  let v148 : BitVec 1 := Scalar.cmpi .slt v144 c0_i32_103
  let v149 : BitVec 1 := Scalar.xori v147 v148
  let c0_i32_101 : BitVec 32 := 0#32
  let v146 : BitVec 1 := Scalar.cmpi .ne v145 c0_i32_101
  let v150 : BitVec 1 := Scalar.andi v149 v146
  let v151 : BitVec 32 := Scalar.addi v145 v144
  let v152 : BitVec 32 := Scalar.select v150 v151 v145
  let c1_i32_108 : BitVec 32 := 1#32
  let v153 : BitVec 32 := Scalar.muli v152 c1_i32_108
  let v154 : BitVec 32 := Scalar.addi c0_i32_109 v153
  v154.toNat
def k0_dev22 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v163 : BitVec 32 := Scalar.addi v2 c7_i32
  let c16_i32_114 : BitVec 32 := 16#32
  let c0_i32_115 : BitVec 32 := 0#32
  let v164 : BitVec 1 := Scalar.cmpi .eq c16_i32_114 c0_i32_115
  let c1_i32_116 : BitVec 32 := 1#32
  let v165 : BitVec 32 := Scalar.select v164 c1_i32_116 c16_i32_114
  let v166 : BitVec 32 := Scalar.remsi v163 v165
  let c0_i32_118 : BitVec 32 := 0#32
  let v168 : BitVec 1 := Scalar.cmpi .slt v166 c0_i32_118
  let c0_i32_119 : BitVec 32 := 0#32
  let v169 : BitVec 1 := Scalar.cmpi .slt v165 c0_i32_119
  let v170 : BitVec 1 := Scalar.xori v168 v169
  let c0_i32_117 : BitVec 32 := 0#32
  let v167 : BitVec 1 := Scalar.cmpi .ne v166 c0_i32_117
  let v171 : BitVec 1 := Scalar.andi v170 v167
  let v172 : BitVec 32 := Scalar.addi v166 v165
  let v173 : BitVec 32 := Scalar.select v171 v172 v166
  let c1_i32_124 : BitVec 32 := 1#32
  let v174 : BitVec 32 := Scalar.muli v173 c1_i32_124
  let v175 : BitVec 32 := Scalar.addi c0_i32_125 v174
  v175.toNat
def k0_dev23 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v184 : BitVec 32 := Scalar.addi v2 c8_i32
  let c16_i32_130 : BitVec 32 := 16#32
  let c0_i32_131 : BitVec 32 := 0#32
  let v185 : BitVec 1 := Scalar.cmpi .eq c16_i32_130 c0_i32_131
  let c1_i32_132 : BitVec 32 := 1#32
  let v186 : BitVec 32 := Scalar.select v185 c1_i32_132 c16_i32_130
  let v187 : BitVec 32 := Scalar.remsi v184 v186
  let c0_i32_134 : BitVec 32 := 0#32
  let v189 : BitVec 1 := Scalar.cmpi .slt v187 c0_i32_134
  let c0_i32_135 : BitVec 32 := 0#32
  let v190 : BitVec 1 := Scalar.cmpi .slt v186 c0_i32_135
  let v191 : BitVec 1 := Scalar.xori v189 v190
  let c0_i32_133 : BitVec 32 := 0#32
  let v188 : BitVec 1 := Scalar.cmpi .ne v187 c0_i32_133
  let v192 : BitVec 1 := Scalar.andi v191 v188
  let v193 : BitVec 32 := Scalar.addi v187 v186
  let v194 : BitVec 32 := Scalar.select v192 v193 v187
  let c1_i32_140 : BitVec 32 := 1#32
  let v195 : BitVec 32 := Scalar.muli v194 c1_i32_140
  let v196 : BitVec 32 := Scalar.addi c0_i32_141 v195
  v196.toNat
def k0_dev24 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v205 : BitVec 32 := Scalar.addi v2 c9_i32
  let c16_i32_146 : BitVec 32 := 16#32
  let c0_i32_147 : BitVec 32 := 0#32
  let v206 : BitVec 1 := Scalar.cmpi .eq c16_i32_146 c0_i32_147
  let c1_i32_148 : BitVec 32 := 1#32
  let v207 : BitVec 32 := Scalar.select v206 c1_i32_148 c16_i32_146
  let v208 : BitVec 32 := Scalar.remsi v205 v207
  let c0_i32_150 : BitVec 32 := 0#32
  let v210 : BitVec 1 := Scalar.cmpi .slt v208 c0_i32_150
  let c0_i32_151 : BitVec 32 := 0#32
  let v211 : BitVec 1 := Scalar.cmpi .slt v207 c0_i32_151
  let v212 : BitVec 1 := Scalar.xori v210 v211
  let c0_i32_149 : BitVec 32 := 0#32
  let v209 : BitVec 1 := Scalar.cmpi .ne v208 c0_i32_149
  let v213 : BitVec 1 := Scalar.andi v212 v209
  let v214 : BitVec 32 := Scalar.addi v208 v207
  let v215 : BitVec 32 := Scalar.select v213 v214 v208
  let c1_i32_156 : BitVec 32 := 1#32
  let v216 : BitVec 32 := Scalar.muli v215 c1_i32_156
  let v217 : BitVec 32 := Scalar.addi c0_i32_157 v216
  v217.toNat
def k0_dev25 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v226 : BitVec 32 := Scalar.addi v2 c10_i32
  let c16_i32_162 : BitVec 32 := 16#32
  let c0_i32_163 : BitVec 32 := 0#32
  let v227 : BitVec 1 := Scalar.cmpi .eq c16_i32_162 c0_i32_163
  let c1_i32_164 : BitVec 32 := 1#32
  let v228 : BitVec 32 := Scalar.select v227 c1_i32_164 c16_i32_162
  let v229 : BitVec 32 := Scalar.remsi v226 v228
  let c0_i32_166 : BitVec 32 := 0#32
  let v231 : BitVec 1 := Scalar.cmpi .slt v229 c0_i32_166
  let c0_i32_167 : BitVec 32 := 0#32
  let v232 : BitVec 1 := Scalar.cmpi .slt v228 c0_i32_167
  let v233 : BitVec 1 := Scalar.xori v231 v232
  let c0_i32_165 : BitVec 32 := 0#32
  let v230 : BitVec 1 := Scalar.cmpi .ne v229 c0_i32_165
  let v234 : BitVec 1 := Scalar.andi v233 v230
  let v235 : BitVec 32 := Scalar.addi v229 v228
  let v236 : BitVec 32 := Scalar.select v234 v235 v229
  let c1_i32_172 : BitVec 32 := 1#32
  let v237 : BitVec 32 := Scalar.muli v236 c1_i32_172
  let v238 : BitVec 32 := Scalar.addi c0_i32_173 v237
  v238.toNat
def k0_dev26 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v247 : BitVec 32 := Scalar.addi v2 c11_i32
  let c16_i32_178 : BitVec 32 := 16#32
  let c0_i32_179 : BitVec 32 := 0#32
  let v248 : BitVec 1 := Scalar.cmpi .eq c16_i32_178 c0_i32_179
  let c1_i32_180 : BitVec 32 := 1#32
  let v249 : BitVec 32 := Scalar.select v248 c1_i32_180 c16_i32_178
  let v250 : BitVec 32 := Scalar.remsi v247 v249
  let c0_i32_182 : BitVec 32 := 0#32
  let v252 : BitVec 1 := Scalar.cmpi .slt v250 c0_i32_182
  let c0_i32_183 : BitVec 32 := 0#32
  let v253 : BitVec 1 := Scalar.cmpi .slt v249 c0_i32_183
  let v254 : BitVec 1 := Scalar.xori v252 v253
  let c0_i32_181 : BitVec 32 := 0#32
  let v251 : BitVec 1 := Scalar.cmpi .ne v250 c0_i32_181
  let v255 : BitVec 1 := Scalar.andi v254 v251
  let v256 : BitVec 32 := Scalar.addi v250 v249
  let v257 : BitVec 32 := Scalar.select v255 v256 v250
  let c1_i32_188 : BitVec 32 := 1#32
  let v258 : BitVec 32 := Scalar.muli v257 c1_i32_188
  let v259 : BitVec 32 := Scalar.addi c0_i32_189 v258
  v259.toNat
def k0_dev27 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v268 : BitVec 32 := Scalar.addi v2 c12_i32
  let c16_i32_194 : BitVec 32 := 16#32
  let c0_i32_195 : BitVec 32 := 0#32
  let v269 : BitVec 1 := Scalar.cmpi .eq c16_i32_194 c0_i32_195
  let c1_i32_196 : BitVec 32 := 1#32
  let v270 : BitVec 32 := Scalar.select v269 c1_i32_196 c16_i32_194
  let v271 : BitVec 32 := Scalar.remsi v268 v270
  let c0_i32_198 : BitVec 32 := 0#32
  let v273 : BitVec 1 := Scalar.cmpi .slt v271 c0_i32_198
  let c0_i32_199 : BitVec 32 := 0#32
  let v274 : BitVec 1 := Scalar.cmpi .slt v270 c0_i32_199
  let v275 : BitVec 1 := Scalar.xori v273 v274
  let c0_i32_197 : BitVec 32 := 0#32
  let v272 : BitVec 1 := Scalar.cmpi .ne v271 c0_i32_197
  let v276 : BitVec 1 := Scalar.andi v275 v272
  let v277 : BitVec 32 := Scalar.addi v271 v270
  let v278 : BitVec 32 := Scalar.select v276 v277 v271
  let c1_i32_204 : BitVec 32 := 1#32
  let v279 : BitVec 32 := Scalar.muli v278 c1_i32_204
  let v280 : BitVec 32 := Scalar.addi c0_i32_205 v279
  v280.toNat
def k0_dev28 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v289 : BitVec 32 := Scalar.addi v2 c13_i32
  let c16_i32_210 : BitVec 32 := 16#32
  let c0_i32_211 : BitVec 32 := 0#32
  let v290 : BitVec 1 := Scalar.cmpi .eq c16_i32_210 c0_i32_211
  let c1_i32_212 : BitVec 32 := 1#32
  let v291 : BitVec 32 := Scalar.select v290 c1_i32_212 c16_i32_210
  let v292 : BitVec 32 := Scalar.remsi v289 v291
  let c0_i32_214 : BitVec 32 := 0#32
  let v294 : BitVec 1 := Scalar.cmpi .slt v292 c0_i32_214
  let c0_i32_215 : BitVec 32 := 0#32
  let v295 : BitVec 1 := Scalar.cmpi .slt v291 c0_i32_215
  let v296 : BitVec 1 := Scalar.xori v294 v295
  let c0_i32_213 : BitVec 32 := 0#32
  let v293 : BitVec 1 := Scalar.cmpi .ne v292 c0_i32_213
  let v297 : BitVec 1 := Scalar.andi v296 v293
  let v298 : BitVec 32 := Scalar.addi v292 v291
  let v299 : BitVec 32 := Scalar.select v297 v298 v292
  let c1_i32_220 : BitVec 32 := 1#32
  let v300 : BitVec 32 := Scalar.muli v299 c1_i32_220
  let v301 : BitVec 32 := Scalar.addi c0_i32_221 v300
  v301.toNat
def k0_dev29 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v310 : BitVec 32 := Scalar.addi v2 c14_i32
  let c16_i32_226 : BitVec 32 := 16#32
  let c0_i32_227 : BitVec 32 := 0#32
  let v311 : BitVec 1 := Scalar.cmpi .eq c16_i32_226 c0_i32_227
  let c1_i32_228 : BitVec 32 := 1#32
  let v312 : BitVec 32 := Scalar.select v311 c1_i32_228 c16_i32_226
  let v313 : BitVec 32 := Scalar.remsi v310 v312
  let c0_i32_230 : BitVec 32 := 0#32
  let v315 : BitVec 1 := Scalar.cmpi .slt v313 c0_i32_230
  let c0_i32_231 : BitVec 32 := 0#32
  let v316 : BitVec 1 := Scalar.cmpi .slt v312 c0_i32_231
  let v317 : BitVec 1 := Scalar.xori v315 v316
  let c0_i32_229 : BitVec 32 := 0#32
  let v314 : BitVec 1 := Scalar.cmpi .ne v313 c0_i32_229
  let v318 : BitVec 1 := Scalar.andi v317 v314
  let v319 : BitVec 32 := Scalar.addi v313 v312
  let v320 : BitVec 32 := Scalar.select v318 v319 v313
  let c1_i32_236 : BitVec 32 := 1#32
  let v321 : BitVec 32 := Scalar.muli v320 c1_i32_236
  let v322 : BitVec 32 := Scalar.addi c0_i32_237 v321
  v322.toNat
def k0_dev30 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_242 : BitVec 32 := 15#32
  let v331 : BitVec 32 := Scalar.addi v2 c15_i32_242
  let c16_i32_243 : BitVec 32 := 16#32
  let c0_i32_244 : BitVec 32 := 0#32
  let v332 : BitVec 1 := Scalar.cmpi .eq c16_i32_243 c0_i32_244
  let c1_i32_245 : BitVec 32 := 1#32
  let v333 : BitVec 32 := Scalar.select v332 c1_i32_245 c16_i32_243
  let v334 : BitVec 32 := Scalar.remsi v331 v333
  let c0_i32_247 : BitVec 32 := 0#32
  let v336 : BitVec 1 := Scalar.cmpi .slt v334 c0_i32_247
  let c0_i32_248 : BitVec 32 := 0#32
  let v337 : BitVec 1 := Scalar.cmpi .slt v333 c0_i32_248
  let v338 : BitVec 1 := Scalar.xori v336 v337
  let c0_i32_246 : BitVec 32 := 0#32
  let v335 : BitVec 1 := Scalar.cmpi .ne v334 c0_i32_246
  let v339 : BitVec 1 := Scalar.andi v338 v335
  let v340 : BitVec 32 := Scalar.addi v334 v333
  let v341 : BitVec 32 := Scalar.select v339 v340 v334
  let c1_i32_253 : BitVec 32 := 1#32
  let v342 : BitVec 32 := Scalar.muli v341 c1_i32_253
  let v343 : BitVec 32 := Scalar.addi c0_i32_254 v342
  v343.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Mesh.lean ====
/-
The mesh of sixteen devices: the shifts the kernel signals and copies along, the semaphores it uses, and the sixteen
slots of the exchange buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueIdx
public import Idealize.ShloMosaic.Lib.Tactic

@[expose] public section

noncomputable section

namespace Cert.ArgmaxProof

open Cert.KernelIdeal Cert.KernelIdeal.Gen
open Idealize.ShloMosaic
open Idealize.ShloMosaic.TcCoe
open Idealize.SL Idealize.SL.Sem

/-! ## Shifts -/

set_option backward.proofsInPublic true in
/-- The device `j + 1` places after `c`. -/
def sh (j : Fin 15) (c : Dev nD) : Dev nD := ⟨(c.val + (j.val + 1)) % 16, Nat.mod_lt _ (by decide)⟩

set_option backward.proofsInPublic true in
/-- The shift that undoes shift `j`. -/
def inv (j : Fin 15) : Fin 15 := ⟨14 - j.val, by omega⟩

theorem inv_inv (j : Fin 15) : inv (inv j) = j := by revert j; decide
theorem sh_inv (j : Fin 15) (c : Dev nD) : sh j (sh (inv j) c) = c := by revert j c; decide
theorem inv_sh (j : Fin 15) (c : Dev nD) : sh (inv j) (sh j c) = c := by revert j c; decide

/-- Shift `j` as a permutation of the devices. -/
def shE (j : Fin 15) : Dev nD ≃ Dev nD := ⟨sh j, sh (inv j), inv_sh j, sh_inv j⟩
/-- Undoing as a permutation of the shifts. -/
def invE : Fin 15 ≃ Fin 15 := ⟨inv, inv, inv_inv, inv_inv⟩

/-- A device's shifts land on different devices. -/
theorem sh_inj (c : Dev nD) : Function.Injective fun j => sh j c := by revert c; decide

/-- The device whose row pair lands in slot `s` of device `c`. -/
def from_ (c : Dev nD) (s : Fin 16) : Dev nD := ⟨(c.val + (16 - s.val)) % 16, Nat.mod_lt _ (by decide)⟩

theorem from_zero (c : Dev nD) : from_ c 0 = c := by revert c; decide
theorem from_sh (c : Dev nD) (j : Fin 15) : from_ (sh j c) j.succ = c := by revert c j; decide

/-! ## The printed device words -/

/-- The device word of the kernel's `j`-th signal and of its `j`-th copy. -/
def sigDev : Fin 15 → Dev nD → Nat :=
  ![k0_dev1, k0_dev2, k0_dev3, k0_dev4, k0_dev5, k0_dev6, k0_dev7, k0_dev8, k0_dev9, k0_dev10, k0_dev11, k0_dev12, k0_dev13, k0_dev14, k0_dev15]
def cpyDev : Fin 15 → Dev nD → Nat :=
  ![k0_dev16, k0_dev17, k0_dev18, k0_dev19, k0_dev20, k0_dev21, k0_dev22, k0_dev23, k0_dev24, k0_dev25, k0_dev26, k0_dev27, k0_dev28, k0_dev29, k0_dev30]

/-- Both name the device `j + 1` places on. -/
theorem sigDev_eq : ∀ (j : Fin 15) (c : Dev nD), sigDev j c = (sh j c).val := by decide +kernel
theorem cpyDev_eq : ∀ (j : Fin 15) (c : Dev nD), cpyDev j c = (sh j c).val := by decide +kernel

/-! ## Semaphores -/

/-- The runtime's barrier semaphore. -/
abbrev barS : Sem sig := (SemArray.scalar (sig.barrier 0 rfl) : Sems sig S_).sem

theorem inbS (j : Fin 15) : ∀ a, (![j.val] : Fin 1 → Nat) a + S1.size a ≤ S15.size a := by revert j; decide

/-- The semaphore copy `j` signals on the sender's side. -/
def sendS (j : Fin 15) : DmaSem sig := ((cc0_scratch3.slice (Rect.unit (s := S15) ![j.val] S1.size (inbS j))).squeeze S_ squeezes_S1_S_).sem
/-- The semaphore copy `j` signals on the receiver's side. -/
def recvS (j : Fin 15) : DmaSem sig := ((cc0_scratch4.slice (Rect.unit (s := S15) ![j.val] S1.size (inbS j))).squeeze S_ squeezes_S1_S_).sem

theorem sendS_val (j : Fin 15) : (sendS j).val = 3 + j.val := by revert j; decide
theorem recvS_val (j : Fin 15) : (recvS j).val = 18 + j.val := by revert j; decide

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own semaphores: fifteen on the sending side, fifteen on the receiving side. -/
abbrev OI : Type := Fin 15 ⊕ Fin 15
abbrev osem : OI → SemLoc sig := Sum.elim (fun j => .dma (sendS j)) (fun j => .dma (recvS j))
/-- All of the exchange's semaphores: those and the barrier. -/
abbrev CI : Type := Unit ⊕ OI
abbrev csem : CI → SemLoc sig := Sum.elim (fun _ => .reg barS) osem
abbrev kcell (ck : Dev nD × CI) : GSem nD τ sig := ((ck.1 : Thread nD τ), csem ck.2)

theorem csem_inj : Function.Injective csem := by decide
theorem ownSemFacts : Pipeline.OwnSemFacts cfg0.spec osem := by decide

/-! ## The slots of the exchange buffer -/

abbrev commM : Memref sig .tc .vmem S16x2x1024 .f32 := Memref.whole cc0_scratch2

theorem inbC (s : Fin 16) : ∀ a, (![s.val, 0, 0] : Fin 3 → Nat) a + S1x2x1024.size a ≤ S16x2x1024.size a := by revert s; decide

/-- Slot `s`: one row pair. -/
abbrev slotR (s : Fin 16) : Rect S16x2x1024 := Rect.unit (s := S16x2x1024) ![s.val, 0, 0] S1x2x1024.size (inbC s)
abbrev slotM (s : Fin 16) : Memref sig .tc .vmem S2x1024 .f32 :=
  (commM.slice (slotR s) (fun _ => rfl)).squeeze S2x1024 squeezes_S1x2x1024_S2x1024

open Idealize.ShloMosaic.ValueIdx in
/-- Where slot `s` keeps its entry `y`. -/
theorem slot_emb (s : Fin 16) (y : S2x1024.Idx) : (slotM s).view.emb y = (ix3 s (y 0) (y 1) : S16x2x1024.Idx) := by
  show (slotR s).emb (Shape.reshapeEquiv _ y) = _
  rw [show Shape.reshapeEquiv (squeezes_S1x2x1024_S2x1024.numel_eq) y = (ix3 (0 : Fin 1) (y 0) (y 1) : S1x2x1024.Idx) from
    Shape.reshapeEquiv_eq_of_rowMajor _ (by
      rw [Shape.rowMajor_val_three, Shape.rowMajor_val_two]
      show ((0 : ℕ) * 2 + (y 0).val) * 1024 + (y 1).val = (y 0).val * 1024 + (y 1).val
      omega)]
  funext a
  apply Fin.ext
  fin_cases a <;> simp [Rect.unit, Rect.emb, ix3]

abbrev slotSet (s : Fin 16) : Finset S16x2x1024.Idx := (slotM s).view.set

theorem mem_slotSet (s : Fin 16) (x : S16x2x1024.Idx) : x ∈ slotSet s ↔ x 0 = s := by
  constructor
  · intro h
    obtain ⟨y, -, rfl⟩ := Finset.mem_map.mp h
    rw [slot_emb]
  · intro h
    refine Finset.mem_map.mpr ⟨fun a => ⟨(x a.succ).val, (x a.succ).isLt⟩, Finset.mem_univ _, ?_⟩
    rw [slot_emb]
    funext a
    apply Fin.ext
    fin_cases a
    · exact congrArg Fin.val h.symm
    · rfl
    · rfl

theorem slot_disjoint (s t : Fin 16) (h : s ≠ t) : Disjoint (slotSet s) (slotSet t) :=
  Finset.disjoint_left.mpr fun x hx hy => h (((mem_slotSet s x).mp hx).symm.trans ((mem_slotSet t x).mp hy))

theorem slot_cover : (Finset.univ : Finset (Fin 16)).biUnion slotSet = Finset.univ :=
  Finset.eq_univ_of_forall fun x => Finset.mem_biUnion.mpr ⟨x 0, Finset.mem_univ _, (mem_slotSet _ x).mpr rfl⟩

end Cert.ArgmaxProof

end
-- ==== Proof.Protocol.lean ====
/-
The exchange's protocol: what every buffer holds at every step, and for every semaphore who pays it, how much, and what
the payment hands over.

* A device's barrier is paid one unit by each of the other fifteen; the device `e + 1` places on hands over its slot
  `e + 1`, which is the slot copy `e` lands in.
* Copy `j` of a device pays its own send semaphore `j`, giving back the part of slot 0 it read from, and the receive
  semaphore `j` of the device `j + 1` places on, giving it its slot `j + 1` with the sender's row pair in it.
-/
module

public import proofs.«01_k».proof.Proof.Mesh
public import Idealize.ShloMosaic.Lib.SparseCore.ProtocolKit
public import Idealize.ShloMosaic.Lib.SparseCore.Stream

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SparseCore.ProtocolKit (finFrom finUpTo)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Step `n` of the grid. -/
def tN (n : ℕ) : Fin cfg0.N := ⟨n % 4, lt_of_lt_of_eq (Nat.mod_lt _ (by decide)) N_0.symm⟩

/-- The rows device `c` reads at step `t`. -/
def xblk (c : Dev nD) (t : Fin cfg0.N) : Vec F S1024x1024 .f32 :=
  (win0_0.blk t).view.read (Elt F) (m ((c : Thread nD τ).loc main_arg0))

/-- The running maximum after steps `0 … n`. -/
def accV (c : Dev nD) : ℕ → Vec F S1x1024 .f32
  | 0 => k0_pay4 (xblk m c (tN 0))
  | n + 1 => k0_pay7 (xblk m c (tN (n + 1))) (accV c n) (accV c n)

/-- The row of the running maximum, within the device's rows. -/
def accI (c : Dev nD) : ℕ → Vec F S1x1024 .i32
  | 0 => k0_pay5 (F := F) (grid0.coords (tN 0)) (xblk m c (tN 0))
  | n + 1 => k0_pay8 (grid0.coords (tN (n + 1))) (xblk m c (tN (n + 1))) (accV m c n) (accI c n)

/-- The device's number as the kernel computes it. -/
def dword (c : Dev nD) : BitVec 32 := Scalar.remsi (Scalar.divsi (Dev.word c) 1#32) 16#32

/-- The row pair device `c` sends: its maximum and that maximum's row in the whole array. -/
def rowV (c : Dev nD) : Vec F S1x1x1024 .f32 := k0_pay13 (accV m c 3)
def rowI (c : Dev nD) : Vec F S1x1x1024 .f32 := k0_pay14 (dword c) (accI m c 3)

/-- The exchange buffer when every copy has landed: slot `s` holds the row pair of the device it comes from. -/
def commF (c : Dev nD) : Vec F S16x2x1024 .f32 := fun x =>
  if (x 1).val = 0 then rowV m (from_ c (x 0)) (ix3 0 0 (x 2)) else rowI m (from_ c (x 0)) (ix3 0 0 (x 2))

/-! ## Slots held -/

/-- Device `c` holds its slot `s` at share `q`, the buffer's contents being `f` there. -/
def slotPts (c : Dev nD) (s : Fin 16) (q : PosShare TreeShare) (f : Vec F S16x2x1024 .f32) : sProp 𝕄 :=
  (slotM s).view.loc (c : Thread nD τ) ↦[(slotM s).view.set]{q} (f : Buf (Elt F) ((slotM s).view.loc (c : Thread nD τ)))

omit [FloatOps F] in
instance slotPts_storable (c : Dev nD) (s q) (f) : BI.Storable (upEmb : UEmb _ 𝕄) (slotPts (F := F) c s q f) := by unfold slotPts; infer_instance

omit [FloatOps F] in
/-- Only the contents on the slot matter. -/
theorem slotPts_congr (c : Dev nD) (s : Fin 16) (q) (f g : Vec F S16x2x1024 .f32) (h : ∀ r k, f (ix3 s r k) = g (ix3 s r k)) :
    (slotPts c s q f : sProp 𝕄) = slotPts c s q g := by
  unfold slotPts
  refine pointsTo_congr fun i hi => ?_
  obtain ⟨y, -, rfl⟩ := Finset.mem_map.mp hi
  rw [slot_emb]; exact h _ _

omit [FloatOps F] in
/-- The exchange buffer is its sixteen slots. -/
theorem comm_slots (c : Dev nD) (f : Vec F S16x2x1024 .f32) :
    ((((c : Thread nD τ).loc cc0_scratch2) ↦{fullShare} f : sProp 𝕄)) = bigSep Finset.univ fun s : Fin 16 => slotPts c s fullShare f := by
  have h := pointsTo_biUnion (Ix := Unit) (Name := ℕ) (U := UU) (Lvl := ℕ) (ℓ := (c : Thread nD τ).loc cc0_scratch2) (q := fullShare) (f := f) (Finset.univ : Finset (Fin 16)) slotSet
    (fun s _ t _ hst => slot_disjoint s t hst)
  rw [slot_cover] at h
  exact h

/-- The part of slot 0 copy `j` reads from. -/
def qs (j : Fin 15) : PosShare TreeShare := piece fullShare 14 j

omit [FloatOps F] in
/-- A slot is its fifteen parts. -/
theorem slot_parts (c : Dev nD) (s : Fin 16) (f : Vec F S16x2x1024 .f32) :
    (slotPts c s fullShare f : sProp 𝕄) = bigSep Finset.univ fun j : Fin 15 => slotPts c s (qs j) f :=
  pointsTo_pieces _ _ 14 fullShare

/-! ## The schedule -/

/-- Bytes a copy counts on its semaphores. -/
def N : ℕ := (slotM 0).view.dmaCredit
theorem N_pos : 0 < N := View.dmaCredit_pos _ (by decide)
theorem credit_slot (s : Fin 16) : (slotM s).view.dmaCredit = N := rfl

/-- Which of the exchange's semaphores a semaphore is. -/
def dec : SemLoc sig → Option CI
  | .reg s => if s = barS then some (.inl ()) else none
  | .dma s => if h : 3 ≤ s.val ∧ s.val < 18 then some (.inr (.inl ⟨s.val - 3, by omega⟩))
      else if h : 18 ≤ s.val ∧ s.val < 33 then some (.inr (.inr ⟨s.val - 18, by omega⟩)) else none

theorem dec_csem (k : CI) : dec (csem k) = some k := by revert k; decide
theorem dec_bar : dec (.reg barS) = some (.inl ()) := dec_csem (.inl ())
theorem dec_send (j : Fin 15) : dec (.dma (sendS j)) = some (.inr (.inl j)) := dec_csem (.inr (.inl j))
theorem dec_recv (j : Fin 15) : dec (.dma (recvS j)) = some (.inr (.inr j)) := dec_csem (.inr (.inr j))

/-- What the device `e + 1` places on hands over with its signal to `c`. -/
def barPay (c : Dev nD) (e : Fin 15) : sProp 𝕄 := iprop(∃ f, slotPts (F := F) (sh e c) e.succ fullShare f)
def sendPay (c : Dev nD) (j : Fin 15) : sProp 𝕄 := slotPts c 0 (qs j) (commF m c)
def recvPay (c : Dev nD) (j : Fin 15) : sProp 𝕄 := slotPts c j.succ fullShare (commF m c)

def dutiesOf : Option CI → Finset (Fin 15)
  | none => ∅
  | some (.inl _) => Finset.univ
  | some (.inr _) => {0}
def amtOf : Option CI → ℕ
  | some (.inl _) => 1
  | _ => N
def payOf (c : Dev nD) (d : Fin 15) : Option CI → sProp 𝕄
  | none => iprop(emp)
  | some (.inl _) => barPay c d
  | some (.inr (.inl j)) => sendPay m c j
  | some (.inr (.inr j)) => recvPay m c j

/-- One round: a barrier has fifteen duties of one unit each, every copy's semaphores one duty of its bytes. -/
def Rd : Rounds.Schedule (GSem nD τ sig) (Fin 15) 𝕄 where
  duties g r := if r = 0 ∧ g.1.2 = .tc then dutiesOf (dec g.2) else ∅
  unitless _ := False
  amount g _ _ := amtOf (dec g.2)
  payload g _ d := payOf m g.1.1 d (dec g.2)
  amount_pos g _ _ _ := by
    unfold amtOf; split
    · exact Nat.one_pos
    · exact N_pos

instance Rd_payload_storable (g : GSem nD τ sig) (r : ℕ) (d : Fin 15) : BI.Storable (upEmb : UEmb _ 𝕄) ((Rd (F := F) m).payload g r d) := by
  show BI.Storable upEmb (payOf m g.1.1 d (dec g.2))
  unfold payOf barPay sendPay recvPay
  split <;> infer_instance

section Sched
variable (c : Dev nD) (j : Fin 15)

theorem duties_bar : (Rd (F := F) m).duties (barCell c) 0 = Finset.univ := by
  dsimp only [Rd]; rw [if_pos ⟨rfl, rfl⟩, dec_bar]; rfl
theorem duties_send : (Rd (F := F) m).duties (sendCell c j) 0 = {0} := by
  dsimp only [Rd]; rw [if_pos ⟨rfl, rfl⟩, dec_send]; rfl
theorem duties_recv : (Rd (F := F) m).duties (recvCell c j) 0 = {0} := by
  dsimp only [Rd]; rw [if_pos ⟨rfl, rfl⟩, dec_recv]; rfl
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := by dsimp only [Rd]; rw [dec_bar]; rfl
theorem amount_send (d : Fin 15) : (Rd (F := F) m).amount (sendCell c j) 0 d = N := by dsimp only [Rd]; rw [dec_send]; rfl
theorem amount_recv (d : Fin 15) : (Rd (F := F) m).amount (recvCell c j) 0 d = N := by dsimp only [Rd]; rw [dec_recv]; rfl

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (e : Fin 15) : (Rd (F := F) m).payload (barCell c) 0 e = barPay c e := by dsimp only [Rd]; rw [dec_bar]; rfl
theorem payload_send (d : Fin 15) : (Rd (F := F) m).payload (sendCell c j) 0 d = sendPay m c j := by dsimp only [Rd]; rw [dec_send]; rfl
theorem payload_recv (d : Fin 15) : (Rd (F := F) m).payload (recvCell c j) 0 d = recvPay m c j := by dsimp only [Rd]; rw [dec_recv]; rfl

/-- All of a barrier's round: every other device's slot. -/
theorem rest_bar : bigSep ((Rd (F := F) m).duties (barCell c) 0 \ ∅) (fun d => (Rd (F := F) m).payload (barCell c) 0 d)
    = bigSep Finset.univ fun e => barPay c e := by
  rw [Finset.sdiff_empty, duties_bar]; exact bigSep_congr fun e _ => payload_bar m c e
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

/-! ## What a device owes, and the levels of the semaphores -/

/-- The receive credit still owed when `k` copies have been issued. -/
def owedR (c : Dev nD) (k : ℕ) : CellTallies nD τ sig Unit := ∑ j ∈ finFrom 15 k, tallyAt (recvCell (sh j c) j) () N
/-- All of it, and the barrier units still owed when `k` signals have been sent. -/
def owedB (c : Dev nD) (k : ℕ) : CellTallies nD τ sig Unit := owedR c 0 + ∑ j ∈ finFrom 15 k, tallyAt (barCell (sh j c)) () 1

def L (g : GSem nD τ sig) : Finset Unit := if g.1.2 = .tc then {()} else ∅
def lvOf : Option CI → ℕ
  | some (.inl _) => 1
  | some (.inr (.inr _)) => 2
  | _ => 0
/-- Barriers at 1, receive semaphores at 2, everything else at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {k : ℕ} {g : GSem nD τ sig} {u : Unit} (h : 0 < owedR c k g u) : ∃ j, g = recvCell (sh j c) j := by
  unfold owedR at h
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hn
  exact hj (if_neg fun h' => hn h'.1)

theorem owedB_pos {c : Dev nD} {k : ℕ} {g : GSem nD τ sig} {u : Unit} (h : 0 < owedB c k g u) :
    (∃ j, g = recvCell (sh j c) j) ∨ ∃ j, g = barCell (sh j c) := by
  unfold owedB at h
  rw [Pi.add_apply, Finsupp.add_apply] at h
  rcases Nat.add_pos_iff_pos_or_pos.mp h with h | h
  · exact .inl (owedR_pos h)
  · right
    rw [Finset.sum_apply, Finsupp.finset_sum_apply] at h
    obtain ⟨j, -, hj⟩ := Finset.exists_ne_zero_of_sum_ne_zero (Nat.pos_iff_ne_zero.mp h)
    refine ⟨j, ?_⟩
    rw [tallyAt_apply] at hj
    by_contra hn
    exact hj (if_neg fun h' => hn h'.1)

/-- A device may wait on a staging semaphore whatever it owes the exchange, -/
theorem mayWait_stage (c : Dev nD) (q : DmaSem sig) (hq : lvOf (dec (.dma q)) = 0) (O : CellTallies nD τ sig Unit)
    (hO : (∃ k, O = owedB c k) ∨ (∃ k, O = owedR c k) ∨ O = 0) :
    (levAts L lv : sProp 𝕄) ⊢ MayWait (c : Thread nD τ) (.dma q) () O := by
  rcases hO with ⟨k, rfl⟩ | ⟨k, rfl⟩ | rfl
  · refine MayOwe.of_cut (L := L) (lev := lv) 0 (fun p hp => by rw [Finset.mem_singleton.mp hp, L_tc]; exact Finset.mem_singleton_self _)
      (fun g u hg => by rcases owedB_pos hg with ⟨j, rfl⟩ | ⟨j, rfl⟩ <;> exact Finset.mem_singleton_self _)
      (fun p hp => by rw [Finset.mem_singleton.mp hp]; exact hq.le)
      (fun g u hg => by
        rcases owedB_pos hg with ⟨j, rfl⟩ | ⟨j, rfl⟩
        · unfold lv; rw [dec_recv]; show 0 < 2; decide
        · unfold lv; rw [dec_bar]; decide)
  · refine MayOwe.of_cut (L := L) (lev := lv) 0 (fun p hp => by rw [Finset.mem_singleton.mp hp, L_tc]; exact Finset.mem_singleton_self _)
      (fun g u hg => by obtain ⟨j, rfl⟩ := owedR_pos hg; exact Finset.mem_singleton_self _)
      (fun p hp => by rw [Finset.mem_singleton.mp hp]; exact hq.le)
      (fun g u hg => by obtain ⟨j, rfl⟩ := owedR_pos hg; unfold lv; rw [dec_recv]; show 0 < 2; decide)
  · rw [MayWait_zero]; iintro -; iempintro

/-- and on its barrier owing receive credit only. -/
theorem mayWait_bar (c : Dev nD) (k : ℕ) : (levAts L lv : sProp 𝕄) ⊢ MayWait (c : Thread nD τ) (.reg barS) () (owedR c k) :=
  MayOwe.of_cut (L := L) (lev := lv) 1 (fun p hp => by rw [Finset.mem_singleton.mp hp, L_tc]; exact Finset.mem_singleton_self _)
    (fun g u hg => by obtain ⟨j, rfl⟩ := owedR_pos hg; exact Finset.mem_singleton_self _)
    (fun p hp => by rw [Finset.mem_singleton.mp hp]; unfold lv; rw [dec_bar]; decide)
    (fun g u hg => by obtain ⟨j, rfl⟩ := owedR_pos hg; unfold lv; rw [dec_recv]; show 1 < 2; decide)

end Cert.ArgmaxProof

end
-- ==== Proof.Steps.lean ====
/-
One signal, one remote copy, one wait: each taken from the state after `k` of them to the state after `k + 1`.
-/
module

public import proofs.«01_k».proof.Proof.Protocol

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SparseCore.ProtocolKit

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c`'s core run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-- Every device's semaphores run the schedule, and stand at round 0 or later. -/
def records : sProp 𝕄 :=
  bigSep Finset.univ fun ck : Dev nD × CI => iprop(cellInv ER (Rd m) (K ck) (kcell ck) ∗ reached ER (kcell ck) 0)

instance records_persistent : Persistent (records m K : sProp 𝕄) := by unfold records; infer_instance

theorem records_at (ck : Dev nD × CI) : (records m K : sProp 𝕄) ⊢ iprop(cellInv ER (Rd m) (K ck) (kcell ck) ∗ reached ER (kcell ck) 0) := by
  unfold records; exact bigSep_elim (Finset.mem_univ ck)

theorem owedB_succ (c : Dev nD) {k : ℕ} (hk : k < 15) : owedB c k = owedB c (k + 1) + tallyAt (barCell (sh ⟨k, hk⟩ c)) () 1 := by
  unfold owedB; rw [sum_finFrom_succ hk, add_assoc]
theorem owedB_end (c : Dev nD) : owedB c 15 = owedR c 0 := by unfold owedB; rw [sum_finFrom_self, add_zero]
theorem owedR_succ (c : Dev nD) {k : ℕ} (hk : k < 15) : owedR c k = owedR c (k + 1) + tallyAt (recvCell (sh ⟨k, hk⟩ c) ⟨k, hk⟩) () N := by
  unfold owedR; rw [sum_finFrom_succ hk]
theorem owedR_end (c : Dev nD) : owedR c 15 = 0 := by unfold owedR; rw [sum_finFrom_self]

/-- What signal `j` of device `c` takes: its duty on the barrier it pays, and the slot it hands over. -/
def sigTok (c : Dev nD) (j : Fin 15) : sProp 𝕄 :=
  iprop(dutyTok ER (barCell (sh j c)) 0 (inv j) ∗ ∃ f, slotPts (F := F) c (inv j).succ fullShare f)

/-- The signals `k … 14` still to send. -/
def SigSt (c : Dev nD) (k : ℕ) : sProp 𝕄 :=
  iprop((∃ W, owes (c : Thread nD τ) (owedB c k) W) ∗ bigSep (finFrom 15 k) (sigTok (F := F) c))

/-- Signal `k`: one unit to the barrier of the device `k + 1` places on, with slot `15 - k`. -/
theorem step_signal (c n : Dev nD) {k : ℕ} (hk : k < 15) (hn : n = sh ⟨k, hk⟩ c) {α : Type} {Q : α → sProp 𝕄}
    {κ : PUnit → Prog (TpuEff nD τ sig (Elt F) Λ₀ .tc) α} :
    (records m K : sProp 𝕄)
      ⊢ iprop(SigSt (F := F) c k -∗ (SigSt (F := F) c (k + 1) -∗ WP c (κ ⟨⟩) Q) -∗ WP c (.op (.semSignal (n : Thread nD τ) barS ((1#32).toNat)) κ) Q) := by
  subst hn
  unfold SigSt
  rw [owedB_succ c hk, bigSep_finFrom_succ hk]
  iintro #HR ⟨⟨%W, HO⟩, Ht, Hr⟩ Hk
  unfold sigTok
  icases Ht with ⟨Ht, Hf⟩
  icases (records_at m K (sh ⟨k, hk⟩ c, .inl ())) $$ HR with ⟨#HI, #Hre⟩
  iapply (Rounds.wp_signal 𝒱₀ ER (Rd m) (c : Thread nD τ) none (dst := (sh ⟨k, hk⟩ c : Thread nD τ)) (κ := K (sh ⟨k, hk⟩ c, .inl ()))
      (d := inv ⟨k, hk⟩) (by rw [duties_bar]; exact Finset.mem_univ _) ((amount_bar m (sh ⟨k, hk⟩ c) (inv ⟨k, hk⟩)).trans (by decide)) () (owedB c (k + 1)) rfl)
    $$ [HO Ht Hf]
  · isplitr; · iexact HI
    isplitl [HO]; · iexact HO
    isplitl [Ht]; · iexact Ht
    isplitl [Hf]
    · rw [payload_bar]; unfold barPay; rw [inv_sh]; iexact Hf
    · iexact Hre
  iintro HO
  iapply Hk
  isplitl [HO]; · iexists W; iexact HO
  iexact Hr

/-- What copy `j` of device `c` takes: its duty on its own send semaphore and on the receive semaphore it pays, its part
of slot 0, and the slot it lands in. -/
def cpyTok (c : Dev nD) (j : Fin 15) : sProp 𝕄 :=
  iprop(dutyTok ER (sendCell c j) 0 0 ∗ dutyTok ER (recvCell (sh j c) j) 0 0 ∗ slotPts c 0 (qs j) (commF m c)
    ∗ barPay (F := F) c j)
def sndCred (c : Dev nD) (j : Fin 15) : sProp 𝕄 := cred (tallyAt (sendCell c j) () N)

/-- The copies `k … 14` still to issue. -/
def SendSt (c : Dev nD) (k : ℕ) : sProp 𝕄 :=
  iprop((∃ W, owes (c : Thread nD τ) (owedR c k) W) ∗ bigSep (finFrom 15 k) (cpyTok m c) ∗ bigSep (finUpTo 15 k) (sndCred (F := F) c))

omit [FloatOps F] in
/-- A slot written with another slot's contents: entry by entry. -/
theorem slot_write (s : Fin 16) (fd fs : Vec F S16x2x1024 .f32) (r : Fin 2) (k : Fin 1024) :
    (slotM s).view.write (Elt F) fd ((slotM 0).view.read (Elt F) fs) Finset.univ (ix3 s r k) = fs (ix3 0 r k) := by
  have h := View.write_emb_of_mem (v := (slotM s).view) (Val := Elt F) (M := Finset.univ) fd ((slotM 0).view.read (Elt F) fs) (Finset.mem_univ (ix2 r k))
  rw [slot_emb] at h
  refine h.trans ?_
  show fs ((slotM 0).view.emb (ix2 r k)) = _
  rw [slot_emb]

/-- Copy `j`'s landing: slot `j + 1` of the device `j + 1` places on holds what it should. -/
theorem landed (c : Dev nD) (j : Fin 15) (fd : Vec F S16x2x1024 .f32) :
    (slotPts (sh j c) j.succ fullShare ((slotM j.succ).view.write (Elt F) fd ((slotM 0).view.read (Elt F) (commF m c)) Finset.univ) : sProp 𝕄)
      = recvPay m (sh j c) j := by
  unfold recvPay
  refine slotPts_congr _ _ _ _ _ fun r k => ?_
  rw [slot_write]
  show (if r.val = 0 then rowV m (from_ c 0) (ix3 0 0 k) else rowI m (from_ c 0) (ix3 0 0 k))
    = if r.val = 0 then rowV m (from_ (sh j c) j.succ) (ix3 0 0 k) else rowI m (from_ (sh j c) j.succ) (ix3 0 0 k)
  rw [from_zero, from_sh]

/-- The library's rule for a remote copy, at copy `j` of device `c`. -/
theorem send_rule (c : Dev nD) (j : Fin 15)
    {hsc : (slotM j.succ : Memref sig (Dev.tc (sh j c) : Thread nD τ).2.kind .vmem S2x1024 .f32).view.ref.isScScratch = false}
    {hsrc : (slotM 0 : Memref sig .tc .vmem S2x1024 .f32).view.WordExact} {hdst : (slotM j.succ : Memref sig .tc .vmem S2x1024 .f32).view.WordExact}
    {hsem : DmaTarget.Typed .vmem (.dma (recvS j)) (.remote (Dev.tc (sh j c) : Thread nD τ) (slotM j.succ : Memref sig .tc .vmem S2x1024 .f32) (.dma (sendS j)) hsc)}
    {α : Type} {Q : α → sProp 𝕄} {κ : PUnit → Prog (TpuEff nD τ sig (Elt F) Λ₀ .tc) α} (fd : Vec F S16x2x1024 .f32)
    (O₀ O : CellTallies nD τ sig Unit) (hO : O₀ = O + tallyAt (recvCell (sh j c) j) () N) (W : Waits sig Unit) (κ₁ κ₂ : ℕ) :
    iprop(cellInv ER (Rd m) κ₁ (sendCell c j) ∗ cellInv ER (Rd m) κ₂ (recvCell (sh j c) j)
        ∗ slotPts c 0 (qs j) (commF m c) ∗ slotPts (sh j c) j.succ fullShare fd
        ∗ owes (c : Thread nD τ) O₀ W
        ∗ dutyTok ER (sendCell c j) 0 0 ∗ reached ER (sendCell c j) 0
        ∗ dutyTok ER (recvCell (sh j c) j) 0 0 ∗ reached ER (recvCell (sh j c) j) 0)
      ⊢ iprop(((cred (tallyAt (sendCell c j) () N) ∗ owes (c : Thread nD τ) O W) -∗ WP c (κ ⟨⟩) Q) -∗ WP c
          (.op (.enqueueDma (slotM 0) (.remote (Dev.tc (sh j c) : Thread nD τ) (slotM j.succ) (.dma (sendS j)) hsc) (.dma (recvS j)) hsrc hdst hsem) κ) Q) := by
  have h := landed m c j fd
  unfold slotPts at h ⊢
  have h1 : (0 : Fin 15) ∈ (Rd m).duties (sendCell c j) 0 := by rw [duties_send]; exact Finset.mem_singleton_self _
  have h2 : (0 : Fin 15) ∈ (Rd m).duties (recvCell (sh j c) j) 0 := by rw [duties_recv]; exact Finset.mem_singleton_self _
  have h3 : (slotM j.succ).view.amount (.dma (recvS j)) = N := credit_slot _
  have h4 : τ.routes (c : Thread nD τ) (sh j c : Thread nD τ) = true := by routes
  have h5 : ((slotM 0).view.loc (c : Thread nD τ) ↦[(slotM 0).view.set]{qs j} (commF m c) : sProp 𝕄) ⊢ (Rd m).payload (sendCell c j) 0 0 := by
    rw [payload_send]; exact BI.Entails.refl _
  have h6 : ((slotM j.succ).view.loc (sh j c : Thread nD τ) ↦[(slotM j.succ).view.set]{fullShare} ((slotM j.succ).view.write (Elt F) fd ((slotM 0).view.read (Elt F) (commF m c)) Finset.univ) : sProp 𝕄)
      ⊢ (Rd m).payload (recvCell (sh j c) j) 0 0 := by
    rw [payload_recv]; exact Entails.of_eq h
  exact Rounds.wp_send_pointsTo (defs := defs₀ (F := F)) 𝒱₀ ER (Rd m) (c : Thread nD τ) none (α := α) (Q := Q) (k := κ) (sp := .vmem) (sp' := .vmem) (s := S2x1024) (e := .f32) (c' := (sh j c : Thread nD τ)) (src := slotM 0) (dst := slotM j.succ) (hsc := hsc) (sS := .dma (sendS j)) (sem := .dma (recvS j))
    (hsrc := hsrc) (hdst := hdst) (hsem := hsem) (q := qs j) (fs := commF m c) (fd := fd) (r₁ := 0) (r₂ := 0) (d₁ := 0) (d₂ := 0) (κ₁ := κ₁) (κ₂ := κ₂) h1 h2 () () N h3 (amount_send m c j 0) (amount_recv m (sh j c) j 0) (O₀ := O₀) O hO (W := W) h5 h6 (Es := Set.univ) h4

/-- Copy `k`: slot 0 into slot `k + 1` of the device `k + 1` places on. -/
theorem step_send (c n : Dev nD) {k : ℕ} (hk : k < 15) (hn : n = sh ⟨k, hk⟩ c)
    {hsc : (slotM (⟨k, hk⟩ : Fin 15).succ : Memref sig (Dev.tc n : Thread nD τ).2.kind .vmem S2x1024 .f32).view.ref.isScScratch = false}
    {hsrc : (slotM 0 : Memref sig .tc .vmem S2x1024 .f32).view.WordExact} {hdst : (slotM (⟨k, hk⟩ : Fin 15).succ : Memref sig .tc .vmem S2x1024 .f32).view.WordExact}
    {hsem : DmaTarget.Typed .vmem (.dma (recvS ⟨k, hk⟩)) (.remote (Dev.tc n : Thread nD τ) (slotM (⟨k, hk⟩ : Fin 15).succ : Memref sig .tc .vmem S2x1024 .f32) (.dma (sendS ⟨k, hk⟩)) hsc)}
    {α : Type} {Q : α → sProp 𝕄} {κ : PUnit → Prog (TpuEff nD τ sig (Elt F) Λ₀ .tc) α} :
    (records m K : sProp 𝕄)
      ⊢ iprop(SendSt m c k -∗ (SendSt m c (k + 1) -∗ WP c (κ ⟨⟩) Q) -∗ WP c
          (.op (.enqueueDma (slotM 0) (.remote (Dev.tc n : Thread nD τ) (slotM (⟨k, hk⟩ : Fin 15).succ) (.dma (sendS ⟨k, hk⟩)) hsc) (.dma (recvS ⟨k, hk⟩)) hsrc hdst hsem) κ) Q) := by
  subst hn
  unfold SendSt
  rw [owedR_succ c hk, bigSep_finFrom_succ hk, bigSep_finUpTo_succ hk]
  iintro #HR ⟨⟨%W, HO⟩, ⟨Ht, Hr⟩, Hc⟩ Hk
  unfold cpyTok barPay
  icases Ht with ⟨HtS, HtR, Hsrc, ⟨%fd, Hdst⟩⟩
  icases (records_at m K (c, .inr (.inl ⟨k, hk⟩))) $$ HR with ⟨#HI1, #Hre1⟩
  icases (records_at m K (sh ⟨k, hk⟩ c, .inr (.inr ⟨k, hk⟩))) $$ HR with ⟨#HI2, #Hre2⟩
  iapply (send_rule m c ⟨k, hk⟩ fd _ (owedR c (k + 1)) rfl W _ _) $$ [HtS HtR Hsrc Hdst HO]
  · isplitr; · iexact HI1
    isplitr; · iexact HI2
    isplitl [Hsrc]; · iexact Hsrc
    isplitl [Hdst]; · iexact Hdst
    isplitl [HO]; · iexact HO
    isplitl [HtS]; · iexact HtS
    isplitr; · iexact Hre1
    isplitl [HtR]; · iexact HtR
    iexact Hre2
  iintro ⟨HcS, HO⟩
  iapply Hk
  isplitl [HO]; · iexists W; iexact HO
  isplitl [Hr]; · iexact Hr
  isplitl [HcS]; · unfold sndCred; iexact HcS
  iexact Hc

/-- One of the two families of the copies' semaphores, and what the copies pay into it. -/
structure Fam where
  q : Fin 15 → DmaSem sig
  pay : Dev nD → Fin 15 → sProp 𝕄
  ci : Fin 15 → CI
  cell : ∀ (c : Dev nD) j, kcell (c, ci j) = ((c : Thread nD τ), SemLoc.dma (q j))
  expect : ∀ (c : Dev nD) j, (Rd (F := F) m).expect ((c : Thread nD τ), SemLoc.dma (q j)) 0 = N
  rest : ∀ (c : Dev nD) j, bigSep ((Rd (F := F) m).duties ((c : Thread nD τ), SemLoc.dma (q j)) 0 \ ∅)
    (fun d => (Rd (F := F) m).payload ((c : Thread nD τ), SemLoc.dma (q j)) 0 d) = pay c j

/-- The send side, and the receive side. -/
def sendFam : Fam (F := F) m := ⟨sendS, sendPay m, fun j => .inr (.inl j), fun _ _ => rfl, expect_send m, rest_send m⟩
def recvFam : Fam (F := F) m := ⟨recvS, recvPay m, fun j => .inr (.inr j), fun _ _ => rfl, expect_recv m, rest_recv m⟩

/-- Before wait `j`: the credit its copy's bytes were counted with, and the place at round 0; after it: the place at round
1 and the payment. -/
def waitTok (B : Fam (F := F) m) (c : Dev nD) (j : Fin 15) : sProp 𝕄 :=
  iprop(cred (tallyAt ((c : Thread nD τ), SemLoc.dma (B.q j)) () N) ∗ atPos ER ((c : Thread nD τ), SemLoc.dma (B.q j)) 0 ∅ 0)
def waitGot (B : Fam (F := F) m) (c : Dev nD) (j : Fin 15) : sProp 𝕄 :=
  iprop(atPos ER ((c : Thread nD τ), SemLoc.dma (B.q j)) 1 ∅ 0 ∗ B.pay c j)

/-- The waits `k … 14` still to take. -/
def WaitSt (B : Fam (F := F) m) (c : Dev nD) (k : ℕ) : sProp 𝕄 :=
  iprop((∃ W, owes (c : Thread nD τ) 0 W) ∗ bigSep (finFrom 15 k) (waitTok m B c) ∗ bigSep (finUpTo 15 k) (waitGot m B c))

/-- Wait `k`, for a copy's bytes. -/
theorem step_wait (B : Fam (F := F) m) (c : Dev nD) {k : ℕ} (hk : k < 15) (s t : Fin 16) (sq : DmaSem sig) (hsq : sq = B.q ⟨k, hk⟩)
    {hsrc : (slotM s : Memref sig .tc .vmem S2x1024 .f32).view.WordExact} {hdst : (slotM t : Memref sig .tc .vmem S2x1024 .f32).view.WordExact}
    {α : Type} {Q : α → sProp 𝕄} {κ : PUnit → Prog (TpuEff nD τ sig (Elt F) Λ₀ .tc) α} :
    (records m K : sProp 𝕄)
      ⊢ iprop(WaitSt m B c k -∗ (WaitSt m B c (k + 1) -∗ WP c (κ ⟨⟩) Q) -∗ WP c (.op (.waitDma2 sq (slotM s) (slotM t) hsrc hdst) κ) Q) := by
  subst hsq
  unfold WaitSt
  rw [bigSep_finFrom_succ hk, bigSep_finUpTo_succ hk]
  iintro #HR ⟨⟨%W, HO⟩, ⟨Ht, Hr⟩, Hg⟩ Hk
  unfold waitTok waitGot
  icases Ht with ⟨Hc, Hat⟩
  icases (records_at m K (c, B.ci ⟨k, hk⟩)) $$ HR with ⟨#HI', -⟩
  ihave HI := (Entails.of_eq (congrArg (cellInv ER (Rd m) (K (c, B.ci ⟨k, hk⟩))) (B.cell c ⟨k, hk⟩))) $$ HI'
  iapply (Rounds.wp_wait_rest_token 𝒱₀ ER (Rd m) (c : Thread nD τ) none (κ := K (c, B.ci ⟨k, hk⟩))
      (wpE_waitDma2_eq 𝒱₀ (c : Thread nD τ) none Set.univ) (Set.mem_univ _) () (O := 0) (W := W) (R := 0) (m := 0) (T := ∅)
      (by rw [Nat.zero_add, B.expect]; exact credit_slot _)) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq (B.rest c ⟨k, hk⟩)) $$ Hpay
  iapply Hk
  isplitl [HO]; · iexists _; iexact HO
  isplitl [Hr]; · iexact Hr
  isplitr [Hg]
  · isplitl [Hat]; · iexact Hat
    iexact Hp
  iexact Hg

/-- The copies all issued: the waits for what they read from begin. -/
theorem sends_done (c : Dev nD) :
    iprop(SendSt m c 15 ∗ bigSep Finset.univ fun j => atPos ER (sendCell c j) 0 ∅ 0) ⊢ WaitSt m (sendFam m) c 0 := by
  unfold SendSt WaitSt
  rw [owedR_end, bigSep_finFrom_self, bigSep_finUpTo_self, bigSep_finFrom_zero, bigSep_finUpTo_zero]
  unfold waitTok sndCred
  rw [bigSep_sep']
  iintro ⟨⟨HO, -, Hc⟩, Hat⟩
  isplitl [HO]; · iexact HO
  isplitl
  · isplitl [Hc]; · iexact Hc
    iexact Hat
  iempintro

/-- The waits on the send side over: those for what lands here begin. -/
theorem sendWaits_done (c : Dev nD) :
    iprop(WaitSt m (sendFam m) c 15 ∗ bigSep Finset.univ (waitTok m (recvFam m) c))
      ⊢ iprop(WaitSt m (recvFam m) c 0 ∗ bigSep Finset.univ (waitGot m (sendFam m) c)) := by
  unfold WaitSt
  rw [bigSep_finFrom_self, bigSep_finUpTo_self, bigSep_finFrom_zero, bigSep_finUpTo_zero]
  iintro ⟨⟨HO, -, Hg⟩, Ht⟩
  isplitr [Hg]
  · isplitl [HO]; · iexact HO
    isplitl; · iexact Ht
    iempintro
  iexact Hg

end Cert.ArgmaxProof

end
-- ==== Proof.Parts.lean ====
/-
The body's printed parts, each from the state it starts in to the state it ends in: the signals (parts 1-6), the copies
(8-17), the waits for what they read from (17-21) and for what lands (21-25).
-/
module

public import proofs.«01_k».proof.Proof.Steps

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ) (c : Dev nD)

variable (i : grid0.Coords)
  (arg1 : Memref sig .tc .vmem S1024x1024 .f32) (harg1 : arg1.IsWhole) (arg2 : Memref sig .tc .vmem S2x1024 .f32) (harg2 : arg2.IsWhole)
  (arg3 : Memref sig .tc .vmem S1x1024 .f32) (harg3 : arg3.IsWhole) (arg4 : Memref sig .tc .vmem S1x1024 .i32) (harg4 : arg4.IsWhole)

/-- The barrier as the body names it. -/
abbrev barM : Sems sig S_ := SemArray.scalar (sig.barrier 0 rfl)

omit K in
/-- A program that only returns. -/
theorem ret_intro {α : Type} (a : α) (Q : α → sProp 𝕄) : Q a ⊢ WP c (Prog.ret a) Q := by
  rw [WP, wp_ret]; exact fupd_intro

section Signals
variable (arg5 : Memref sig .tc .vmem S16x2x1024 .f32) (harg5 : arg5.IsWhole) (arg6 : DmaSems sig S15) (arg7 : DmaSems sig S15)
  (v2 : BitVec 32) (h : k0_cond1 i = 1#1)

/-- Signals 1 to 2. -/
theorem part1 {Q} : (records m K : sProp 𝕄) ⊢ iprop(SigSt (F := F) c 0 -∗ (∀ r, SigSt (F := F) c 2 -∗ Q r)
    -∗ WP c (k0_part1 i arg1 harg1 arg2 harg2 arg3 harg3 arg4 harg4 arg5 harg5 arg6 arg7 c v2 barM h) Q) := by
  rw [k0_part1_eq_skeleton]; unfold k0_part1_skel
  simp only [semSignalWord, Prog.lift, Prog.bind_op, Prog.bind_ret, Prog.pure_eq_ret]
  iintro #HR H Hk
  iapply (step_signal m K c _ (k := 0) (by decide) (Fin.ext (sigDev_eq 0 c))) $$ HR H; iintro H
  iapply (step_signal m K c _ (k := 1) (by decide) (Fin.ext (sigDev_eq 1 c))) $$ HR H; iintro H
  iapply (ret_intro c); iapply Hk; iexact H

/-- Signals 3 to 5. -/
theorem part2 (a b : BitVec 32) (p q : BitVec 1) {Q} : (records m K : sProp 𝕄) ⊢ iprop(SigSt (F := F) c 2 -∗ (∀ r, SigSt (F := F) c 5 -∗ Q r)
    -∗ WP c (k0_part2 i arg1 harg1 arg2 harg2 arg3 harg3 arg4 harg4 arg5 harg5 arg6 arg7 c v2 barM h a b p q) Q) := by
  rw [k0_part2_eq_skeleton]; unfold k0_part2_skel
  simp only [semSignalWord, Prog.lift, Prog.bind_op, Prog.bind_ret, Prog.pure_eq_ret]
  iintro #HR H Hk
  iapply (step_signal m K c _ (k := 2) (by decide) (Fin.ext (sigDev_eq 2 c))) $$ HR H; iintro H
  iapply (step_signal m K c _ (k := 3) (by decide) (Fin.ext (sigDev_eq 3 c))) $$ HR H; iintro H
  iapply (step_signal m K c _ (k := 4) (by decide) (Fin.ext (sigDev_eq 4 c))) $$ HR H; iintro H
  iapply (ret_intro c); iapply Hk; iexact H

/-- Signals 6 to 7. -/
theorem part3 {Q} : (records m K : sProp 𝕄) ⊢ iprop(SigSt (F := F) c 5 -∗ (∀ r, SigSt (F := F) c 7 -∗ Q r)
    -∗ WP c (k0_part3 i arg1 harg1 arg2 harg2 arg3 harg3 arg4 harg4 arg5 harg5 arg6 arg7 c v2 barM h) Q) := by
  rw [k0_part3_eq_skeleton]; unfold k0_part3_skel
  simp only [semSignalWord, Prog.lift, Prog.bind_op, Prog.bind_ret, Prog.pure_eq_ret]
  iintro #HR H Hk
  iapply (step_signal m K c _ (k := 5) (by decide) (Fin.ext (sigDev_eq 5 c))) $$ HR H; iintro H
  iapply (step_signal m K c _ (k := 6) (by decide) (Fin.ext (sigDev_eq 6 c))) $$ HR H; iintro H
  iapply (ret_intro c); iapply Hk; iexact H

/-- Signals 8 to 10. -/
theorem part4 (a b : BitVec 32) (p q : BitVec 1) {Q} : (records m K : sProp 𝕄) ⊢ iprop(SigSt (F := F) c 7 -∗ (∀ r, SigSt (F := F) c 10 -∗ Q r)
    -∗ WP c (k0_part4 i arg1 harg1 arg2 harg2 arg3 harg3 arg4 harg4 arg5 harg5 arg6 arg7 c v2 barM h a b p q) Q) := by
  rw [k0_part4_eq_skeleton]; unfold k0_part4_skel
  simp only [semSignalWord, Prog.lift, Prog.bind_op, Prog.bind_ret, Prog.pure_eq_ret]
  iintro #HR H Hk
  iapply (step_signal m K c _ (k := 7) (by decide) (Fin.ext (sigDev_eq 7 c))) $$ HR H; iintro H
  iapply (step_signal m K c _ (k := 8) (by decide) (Fin.ext (sigDev_eq 8 c))) $$ HR H; iintro H
  iapply (step_signal m K c _ (k := 9) (by decide) (Fin.ext (sigDev_eq 9 c))) $$ HR H; iintro H
  iapply (ret_intro c); iapply Hk; iexact H

/-- Signals 11 to 12. -/
theorem part5 {Q} : (records m K : sProp 𝕄) ⊢ iprop(SigSt (F := F) c 10 -∗ (∀ r, SigSt (F := F) c 12 -∗ Q r)
    -∗ WP c (k0_part5 i arg1 harg1 arg2 harg2 arg3 harg3 arg4 harg4 arg5 harg5 arg6 arg7 c v2 barM h) Q) := by
  rw [k0_part5_eq_skeleton]; unfold k0_part5_skel
  simp only [semSignalWord, Prog.lift, Prog.bind_op, Prog.bind_ret, Prog.pure_eq_ret]
  iintro #HR H Hk
  iapply (step_signal m K c _ (k := 10) (by decide) (Fin.ext (sigDev_eq 10 c))) $$ HR H; iintro H
  iapply (step_signal m K c _ (k := 11) (by decide) (Fin.ext (sigDev_eq 11 c))) $$ HR H; iintro H
  iapply (ret_intro c); iapply Hk; iexact H

/-- Signals 13 to 15. -/
theorem part6 (a b : BitVec 32) (p q : BitVec 1) {Q} : (records m K : sProp 𝕄) ⊢ iprop(SigSt (F := F) c 12 -∗ (∀ r, SigSt (F := F) c 15 -∗ Q r)
    -∗ WP c (k0_part6 i arg1 harg1 arg2 harg2 arg3 harg3 arg4 harg4 arg5 harg5 arg6 arg7 c v2 barM h a b p q) Q) := by
  rw [k0_part6_eq_skeleton]; unfold k0_part6_skel
  simp only [semSignalWord, Prog.lift, Prog.bind_op, Prog.bind_ret, Prog.pure_eq_ret]
  iintro #HR H Hk
  iapply (step_signal m K c _ (k := 12) (by decide) (Fin.ext (sigDev_eq 12 c))) $$ HR H; iintro H
  iapply (step_signal m K c _ (k := 13) (by decide) (Fin.ext (sigDev_eq 13 c))) $$ HR H; iintro H
  iapply (step_signal m K c _ (k := 14) (by decide) (Fin.ext (sigDev_eq 14 c))) $$ HR H; iintro H
  iapply (ret_intro c); iapply Hk; iexact H

end Signals

section Copies
variable (v2 : BitVec 32) (h : k0_cond4 i = 1#1)

/-- Copies 1 and 2. -/
theorem part8 {Q} : (records m K : sProp 𝕄) ⊢ iprop(SendSt m c 0 -∗ (∀ r, SendSt m c 2 -∗ Q r)
    -∗ WP c (k0_part8 i arg1 harg1 arg2 harg2 arg3 harg3 arg4 harg4 commM (Memref.isWhole_whole _) cc0_scratch3 cc0_scratch4 c v2 h) Q) := by
  rw [k0_part8_eq_skeleton]; unfold k0_part8_skel
  simp only [Prog.lift, Prog.bind_op, Prog.bind_ret, Prog.pure_eq_ret]
  iintro #HR H Hk
  iapply (step_send m K c _ (k := 0) (by decide) (Fin.ext (cpyDev_eq 0 c))) $$ HR H; iintro H
  iapply (step_send m K c _ (k := 1) (by decide) (Fin.ext (cpyDev_eq 1 c))) $$ HR H; iintro H
  iapply (ret_intro c); iapply Hk; iexact H

/-- Copy 3. -/
theorem part9 (a b : BitVec 32) (p q : BitVec 1) {Q} : (records m K : sProp 𝕄) ⊢ iprop(SendSt m c 2 -∗ (∀ r, SendSt m c 3 -∗ Q r)
    -∗ WP c (k0_part9 i arg1 harg1 arg2 harg2 arg3 harg3 arg4 harg4 commM (Memref.isWhole_whole _) cc0_scratch3 cc0_scratch4 c v2 h a b p q) Q) := by
  rw [k0_part9_eq_skeleton]; unfold k0_part9_skel
  simp only [Prog.lift, Prog.bind_op, Prog.bind_ret, Prog.pure_eq_ret]
  iintro #HR H Hk
  iapply (step_send m K c _ (k := 2) (by decide) (Fin.ext (cpyDev_eq 2 c))) $$ HR H; iintro H
  iapply (ret_intro c); iapply Hk; iexact H

/-- Copies 4 and 5. -/
theorem part10 {Q} : (records m K : sProp 𝕄) ⊢ iprop(SendSt m c 3 -∗ (∀ r, SendSt m c 5 -∗ Q r)
    -∗ WP c (k0_part10 i arg1 harg1 arg2 harg2 arg3 harg3 arg4 harg4 commM (Memref.isWhole_whole _) cc0_scratch3 cc0_scratch4 c v2 h) Q) := by
  rw [k0_part10_eq_skeleton]; unfold k0_part10_skel
  simp only [Prog.lift, Prog.bind_op, Prog.bind_ret, Prog.pure_eq_ret]
  iintro #HR H Hk
  iapply (step_send m K c _ (k := 3) (by decide) (Fin.ext (cpyDev_eq 3 c))) $$ HR H; iintro H
  iapply (step_send m K c _ (k := 4) (by decide) (Fin.ext (cpyDev_eq 4 c))) $$ HR H; iintro H
  iapply (ret_intro c); iapply Hk; iexact H

/-- Copy 6. -/
theorem part11 (a b : BitVec 32) (p q : BitVec 1) {Q} : (records m K : sProp 𝕄) ⊢ iprop(SendSt m c 5 -∗ (∀ r, SendSt m c 6 -∗ Q r)
    -∗ WP c (k0_part11 i arg1 harg1 arg2 harg2 arg3 harg3 arg4 harg4 commM (Memref.isWhole_whole _) cc0_scratch3 cc0_scratch4 c v2 h a b p q) Q) := by
  rw [k0_part11_eq_skeleton]; unfold k0_part11_skel
  simp only [Prog.lift, Prog.bind_op, Prog.bind_ret, Prog.pure_eq_ret]
  iintro #HR H Hk
  iapply (step_send m K c _ (k := 5) (by decide) (Fin.ext (cpyDev_eq 5 c))) $$ HR H; iintro H
  iapply (ret_intro c); iapply Hk; iexact H

/-- Copies 7 and 8. -/
theorem part12 {Q} : (records m K : sProp 𝕄) ⊢ iprop(SendSt m c 6 -∗ (∀ r, SendSt m c 8 -∗ Q r)
    -∗ WP c (k0_part12 i arg1 harg1 arg2 harg2 arg3 harg3 arg4 harg4 commM (Memref.isWhole_whole _) cc0_scratch3 cc0_scratch4 c v2 h) Q) := by
  rw [k0_part12_eq_skeleton]; unfold k0_part12_skel
  simp only [Prog.lift, Prog.bind_op, Prog.bind_ret, Prog.pure_eq_ret]
  iintro #HR H Hk
  iapply (step_send m K c _ (k := 6) (by decide) (Fin.ext (cpyDev_eq 6 c))) $$ HR H; iintro H
  iapply (step_send m K c _ (k := 7) (by decide) (Fin.ext (cpyDev_eq 7 c))) $$ HR H; iintro H
  iapply (ret_intro c); iapply Hk; iexact H

/-- Copies 9 and 10. -/
theorem part13 (a : BitVec 32) {Q} : (records m K : sProp 𝕄) ⊢ iprop(SendSt m c 8 -∗ (∀ r, SendSt m c 10 -∗ Q r)
    -∗ WP c (k0_part13 i arg1 harg1 arg2 harg2 arg3 harg3 arg4 harg4 commM (Memref.isWhole_whole _) cc0_scratch3 cc0_scratch4 c v2 h a) Q) := by
  rw [k0_part13_eq_skeleton]; unfold k0_part13_skel
  simp only [Prog.lift, Prog.bind_op, Prog.bind_ret, Prog.pure_eq_ret]
  iintro #HR H Hk
  iapply (step_send m K c _ (k := 8) (by decide) (Fin.ext (cpyDev_eq 8 c))) $$ HR H; iintro H
  iapply (step_send m K c _ (k := 9) (by decide) (Fin.ext (cpyDev_eq 9 c))) $$ HR H; iintro H
  iapply (ret_intro c); iapply Hk; iexact H

/-- Copy 11. -/
theorem part14 {Q} : (records m K : sProp 𝕄) ⊢ iprop(SendSt m c 10 -∗ (∀ r, SendSt m c 11 -∗ Q r)
    -∗ WP c (k0_part14 i arg1 harg1 arg2 harg2 arg3 harg3 arg4 harg4 commM (Memref.isWhole_whole _) cc0_scratch3 cc0_scratch4 c v2 h) Q) := by
  rw [k0_part14_eq_skeleton]; unfold k0_part14_skel
  simp only [Prog.lift, Prog.bind_op, Prog.bind_ret, Prog.pure_eq_ret]
  iintro #HR H Hk
  iapply (step_send m K c _ (k := 10) (by decide) (Fin.ext (cpyDev_eq 10 c))) $$ HR H; iintro H
  iapply (ret_intro c); iapply Hk; iexact H

/-- Copies 12 and 13. -/
theorem part15 (a : BitVec 32) {Q} : (records m K : sProp 𝕄) ⊢ iprop(SendSt m c 11 -∗ (∀ r, SendSt m c 13 -∗ Q r)
    -∗ WP c (k0_part15 i arg1 harg1 arg2 harg2 arg3 harg3 arg4 harg4 commM (Memref.isWhole_whole _) cc0_scratch3 cc0_scratch4 c v2 h a) Q) := by
  rw [k0_part15_eq_skeleton]; unfold k0_part15_skel
  simp only [Prog.lift, Prog.bind_op, Prog.bind_ret, Prog.pure_eq_ret]
  iintro #HR H Hk
  iapply (step_send m K c _ (k := 11) (by decide) (Fin.ext (cpyDev_eq 11 c))) $$ HR H; iintro H
  iapply (step_send m K c _ (k := 12) (by decide) (Fin.ext (cpyDev_eq 12 c))) $$ HR H; iintro H
  iapply (ret_intro c); iapply Hk; iexact H

/-- Copy 14. -/
theorem part16 (a b : BitVec 32) {Q} : (records m K : sProp 𝕄) ⊢ iprop(SendSt m c 13 -∗ (∀ r, SendSt m c 14 -∗ Q r)
    -∗ WP c (k0_part16 i arg1 harg1 arg2 harg2 arg3 harg3 arg4 harg4 commM (Memref.isWhole_whole _) cc0_scratch3 cc0_scratch4 c v2 h a b) Q) := by
  rw [k0_part16_eq_skeleton]; unfold k0_part16_skel
  simp only [Prog.lift, Prog.bind_op, Prog.bind_ret, Prog.pure_eq_ret]
  iintro #HR H Hk
  iapply (step_send m K c _ (k := 13) (by decide) (Fin.ext (cpyDev_eq 13 c))) $$ HR H; iintro H
  iapply (ret_intro c); iapply Hk; iexact H

/-- Copy 15, and waits 1 and 2 of the send side. -/
theorem part17 (a : BitVec 32) {Q} : (records m K : sProp 𝕄) ⊢ iprop((SendSt m c 14 ∗ bigSep Finset.univ fun j => atPos ER (sendCell c j) 0 ∅ 0)
    -∗ (∀ r, WaitSt m (sendFam m) c 2 -∗ Q r)
    -∗ WP c (k0_part17 i arg1 harg1 arg2 harg2 arg3 harg3 arg4 harg4 commM (Memref.isWhole_whole _) cc0_scratch3 cc0_scratch4 c h a) Q) := by
  rw [k0_part17_eq_skeleton]; unfold k0_part17_skel
  simp only [Prog.lift, Prog.bind_op, Prog.bind_ret, Prog.pure_eq_ret]
  iintro #HR ⟨H, Hat⟩ Hk
  iapply (step_send m K c _ (k := 14) (by decide) (Fin.ext (cpyDev_eq 14 c))) $$ HR H; iintro H
  ihave H := (sends_done m c) $$ [H Hat]
  · isplitl [H]; · iexact H
    iexact Hat
  iapply (step_wait m K (sendFam m) c (k := 0) (by decide) 1 0 _ rfl) $$ HR H; iintro H
  iapply (step_wait m K (sendFam m) c (k := 1) (by decide) 2 0 _ rfl) $$ HR H; iintro H
  iapply (ret_intro c); iapply Hk; iexact H

end Copies

section Waits

/-- Waits 3 to 6 of the send side. -/
theorem part18 {Q} : (records m K : sProp 𝕄) ⊢ iprop(WaitSt m (sendFam m) c 2 -∗ (∀ r, WaitSt m (sendFam m) c 6 -∗ Q r)
    -∗ WP c (k0_part18 i arg1 harg1 arg2 harg2 arg3 harg3 arg4 harg4 commM (Memref.isWhole_whole _) cc0_scratch3 cc0_scratch4) Q) := by
  rw [k0_part18_eq_skeleton]; unfold k0_part18_skel
  simp only [Prog.lift, Prog.bind_op, Prog.bind_ret, Prog.pure_eq_ret]
  iintro #HR H Hk
  iapply (step_wait m K (sendFam m) c (k := 2) (by decide) 3 0 _ rfl) $$ HR H; iintro H
  iapply (step_wait m K (sendFam m) c (k := 3) (by decide) 4 0 _ rfl) $$ HR H; iintro H
  iapply (step_wait m K (sendFam m) c (k := 4) (by decide) 5 0 _ rfl) $$ HR H; iintro H
  iapply (step_wait m K (sendFam m) c (k := 5) (by decide) 6 0 _ rfl) $$ HR H; iintro H
  iapply (ret_intro c); iapply Hk; iexact H

/-- Waits 7 to 10 of the send side. -/
theorem part19 {Q} : (records m K : sProp 𝕄) ⊢ iprop(WaitSt m (sendFam m) c 6 -∗ (∀ r, WaitSt m (sendFam m) c 10 -∗ Q r)
    -∗ WP c (k0_part19 i arg1 harg1 arg2 harg2 arg3 harg3 arg4 harg4 commM (Memref.isWhole_whole _) cc0_scratch3 cc0_scratch4) Q) := by
  rw [k0_part19_eq_skeleton]; unfold k0_part19_skel
  simp only [Prog.lift, Prog.bind_op, Prog.bind_ret, Prog.pure_eq_ret]
  iintro #HR H Hk
  iapply (step_wait m K (sendFam m) c (k := 6) (by decide) 7 0 _ rfl) $$ HR H; iintro H
  iapply (step_wait m K (sendFam m) c (k := 7) (by decide) 8 0 _ rfl) $$ HR H; iintro H
  iapply (step_wait m K (sendFam m) c (k := 8) (by decide) 9 0 _ rfl) $$ HR H; iintro H
  iapply (step_wait m K (sendFam m) c (k := 9) (by decide) 10 0 _ rfl) $$ HR H; iintro H
  iapply (ret_intro c); iapply Hk; iexact H

/-- Waits 11 to 14 of the send side. -/
theorem part20 {Q} : (records m K : sProp 𝕄) ⊢ iprop(WaitSt m (sendFam m) c 10 -∗ (∀ r, WaitSt m (sendFam m) c 14 -∗ Q r)
    -∗ WP c (k0_part20 i arg1 harg1 arg2 harg2 arg3 harg3 arg4 harg4 commM (Memref.isWhole_whole _) cc0_scratch3 cc0_scratch4) Q) := by
  rw [k0_part20_eq_skeleton]; unfold k0_part20_skel
  simp only [Prog.lift, Prog.bind_op, Prog.bind_ret, Prog.pure_eq_ret]
  iintro #HR H Hk
  iapply (step_wait m K (sendFam m) c (k := 10) (by decide) 11 0 _ rfl) $$ HR H; iintro H
  iapply (step_wait m K (sendFam m) c (k := 11) (by decide) 12 0 _ rfl) $$ HR H; iintro H
  iapply (step_wait m K (sendFam m) c (k := 12) (by decide) 13 0 _ rfl) $$ HR H; iintro H
  iapply (step_wait m K (sendFam m) c (k := 13) (by decide) 14 0 _ rfl) $$ HR H; iintro H
  iapply (ret_intro c); iapply Hk; iexact H

/-- The send side's last wait, and waits 1 and 2 of the receive side. -/
theorem part21 (a b d : BitVec 32) {Q} : (records m K : sProp 𝕄) ⊢ iprop((WaitSt m (sendFam m) c 14 ∗ bigSep Finset.univ (waitTok m (recvFam m) c))
    -∗ (∀ r, (WaitSt m (recvFam m) c 2 ∗ bigSep Finset.univ (waitGot m (sendFam m) c)) -∗ Q r)
    -∗ WP c (k0_part21 i arg1 harg1 arg2 harg2 arg3 harg3 arg4 harg4 commM (Memref.isWhole_whole _) cc0_scratch3 cc0_scratch4 a b d) Q) := by
  rw [k0_part21_eq_skeleton]; unfold k0_part21_skel
  simp only [Prog.lift, Prog.bind_op, Prog.bind_ret, Prog.pure_eq_ret]
  iintro #HR ⟨H, Ht⟩ Hk
  iapply (step_wait m K (sendFam m) c (k := 14) (by decide) 15 0 _ rfl) $$ HR H; iintro H
  icases (sendWaits_done m c) $$ [H Ht] with ⟨H, Hg⟩
  · isplitl [H]; · iexact H
    iexact Ht
  iapply (step_wait m K (recvFam m) c (k := 0) (by decide) 0 1 _ rfl) $$ HR H; iintro H
  iapply (step_wait m K (recvFam m) c (k := 1) (by decide) 0 2 _ rfl) $$ HR H; iintro H
  iapply (ret_intro c); iapply Hk
  isplitl [H]; · iexact H
  iexact Hg

/-- Waits 3 to 5 of the receive side. -/
theorem part22 (a b d e f : BitVec 32) {Q} : (records m K : sProp 𝕄) ⊢ iprop(WaitSt m (recvFam m) c 2 -∗ (∀ r, WaitSt m (recvFam m) c 5 -∗ Q r)
    -∗ WP c (k0_part22 i arg1 harg1 arg2 harg2 arg3 harg3 arg4 harg4 commM (Memref.isWhole_whole _) cc0_scratch3 cc0_scratch4 a b d e f) Q) := by
  rw [k0_part22_eq_skeleton]; unfold k0_part22_skel
  simp only [Prog.lift, Prog.bind_op, Prog.bind_ret, Prog.pure_eq_ret]
  iintro #HR H Hk
  iapply (step_wait m K (recvFam m) c (k := 2) (by decide) 0 3 _ rfl) $$ HR H; iintro H
  iapply (step_wait m K (recvFam m) c (k := 3) (by decide) 0 4 _ rfl) $$ HR H; iintro H
  iapply (step_wait m K (recvFam m) c (k := 4) (by decide) 0 5 _ rfl) $$ HR H; iintro H
  iapply (ret_intro c); iapply Hk; iexact H

/-- Waits 6 to 8 of the receive side. -/
theorem part23 (a b d : BitVec 32) {Q} : (records m K : sProp 𝕄) ⊢ iprop(WaitSt m (recvFam m) c 5 -∗ (∀ r, WaitSt m (recvFam m) c 8 -∗ Q r)
    -∗ WP c (k0_part23 i arg1 harg1 arg2 harg2 arg3 harg3 arg4 harg4 commM (Memref.isWhole_whole _) cc0_scratch3 cc0_scratch4 a b d) Q) := by
  rw [k0_part23_eq_skeleton]; unfold k0_part23_skel
  simp only [Prog.lift, Prog.bind_op, Prog.bind_ret, Prog.pure_eq_ret]
  iintro #HR H Hk
  iapply (step_wait m K (recvFam m) c (k := 5) (by decide) 0 6 _ rfl) $$ HR H; iintro H
  iapply (step_wait m K (recvFam m) c (k := 6) (by decide) 0 7 _ rfl) $$ HR H; iintro H
  iapply (step_wait m K (recvFam m) c (k := 7) (by decide) 0 8 _ rfl) $$ HR H; iintro H
  iapply (ret_intro c); iapply Hk; iexact H

/-- Waits 9 to 11 of the receive side. -/
theorem part24 (a b d : BitVec 32) {Q} : (records m K : sProp 𝕄) ⊢ iprop(WaitSt m (recvFam m) c 8 -∗ (∀ r, WaitSt m (recvFam m) c 11 -∗ Q r)
    -∗ WP c (k0_part24 i arg1 harg1 arg2 harg2 arg3 harg3 arg4 harg4 commM (Memref.isWhole_whole _) cc0_scratch3 cc0_scratch4 a b d) Q) := by
  rw [k0_part24_eq_skeleton]; unfold k0_part24_skel
  simp only [Prog.lift, Prog.bind_op, Prog.bind_ret, Prog.pure_eq_ret]
  iintro #HR H Hk
  iapply (step_wait m K (recvFam m) c (k := 8) (by decide) 0 9 _ rfl) $$ HR H; iintro H
  iapply (step_wait m K (recvFam m) c (k := 9) (by decide) 0 10 _ rfl) $$ HR H; iintro H
  iapply (step_wait m K (recvFam m) c (k := 10) (by decide) 0 11 _ rfl) $$ HR H; iintro H
  iapply (ret_intro c); iapply Hk; iexact H

/-- Waits 12 to 15 of the receive side. -/
theorem part25 (a b d : BitVec 32) {Q} : (records m K : sProp 𝕄) ⊢ iprop(WaitSt m (recvFam m) c 11 -∗ (∀ r, WaitSt m (recvFam m) c 15 -∗ Q r)
    -∗ WP c (k0_part25 i arg1 harg1 arg2 harg2 arg3 harg3 arg4 harg4 commM (Memref.isWhole_whole _) cc0_scratch3 cc0_scratch4 a b d) Q) := by
  rw [k0_part25_eq_skeleton]; unfold k0_part25_skel
  simp only [Prog.lift, Prog.bind_op, Prog.bind_ret, Prog.pure_eq_ret]
  iintro #HR H Hk
  iapply (step_wait m K (recvFam m) c (k := 11) (by decide) 0 12 _ rfl) $$ HR H; iintro H
  iapply (step_wait m K (recvFam m) c (k := 12) (by decide) 0 13 _ rfl) $$ HR H; iintro H
  iapply (step_wait m K (recvFam m) c (k := 13) (by decide) 0 14 _ rfl) $$ HR H; iintro H
  iapply (step_wait m K (recvFam m) c (k := 14) (by decide) 0 15 _ rfl) $$ HR H; iintro H
  iapply (ret_intro c); iapply Hk; iexact H

end Waits

end Cert.ArgmaxProof

end
-- ==== Proof.Body.lean ====
/-
The body at each of the four grid points: the first signals every other device and starts the running maximum; the next two
carry it on; the last carries it on, sends the device's row pair to every other device, receives theirs and writes the result.
-/
module

public import proofs.«01_k».proof.Proof.Parts
public import Idealize.ShloMosaic.Lib.VecWindow
public import Idealize.ShloMosaic.Lib.Pipeline.ValueKit.Geometry

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## What the body's buffers hold -/

/-- The running maximum's buffer, its row's buffer and the exchange buffer of device `c`, whole. -/
def accP (v : Vec F S1x1024 .f32) : sProp 𝕄 := (c : Thread nD τ).loc cc0_scratch0 ↦{fullShare} (v : Buf (Elt F) ((c : Thread nD τ).loc cc0_scratch0))
def idxP (v : Vec F S1x1024 .i32) : sProp 𝕄 := (c : Thread nD τ).loc cc0_scratch1 ↦{fullShare} (v : Buf (Elt F) ((c : Thread nD τ).loc cc0_scratch1))
def commP (v : Vec F S16x2x1024 .f32) : sProp 𝕄 := (c : Thread nD τ).loc cc0_scratch2 ↦{fullShare} (v : Buf (Elt F) ((c : Thread nD τ).loc cc0_scratch2))

abbrev accM : Memref sig .tc .vmem S1x1024 .f32 := Memref.whole cc0_scratch0
abbrev idxM : Memref sig .tc .vmem S1x1024 .i32 := Memref.whole cc0_scratch1
abbrev rC : Rect S16x2x1024 := Rect.unit (s := S16x2x1024) ![0, 0, 0] S16x2x1024.size inb_S16x2x1024_S16x2x1024_0_0_0
abbrev rA : Rect S1x1024 := Rect.unit (s := S1x1024) ![0, 0] S1x1024.size inb_S1x1024_S1x1024_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

section Buffers
variable {α : Type}

theorem load_acc {hl} {v : Vec F S1x1024 .f32} {k : Vec F S1x1024 .f32 → Prog (TpuEff nD τ sig (Elt F) Λ₀ .tc) α} {Q : α → sProp 𝕄} :
    accP c v ⊢ iprop((accP c v -∗ WP c (k v) Q) -∗ WP c (.op (.load accM rA.toLoadRect hl) k) Q) := by
  have h := wp_load (defs := defs₀ (F := F)) 𝒱₀ (c : Thread nD τ) none (Γ := .empty) Set.univ (m := accM) (r := rA.toLoadRect) (hl := hl) (k := k) (Q := Q) (q := fullShare) (f := v) (Finset.subset_univ _)
  rw [show accM.view.readAt (Elt F) rA.toLoadRect v = v from Memref.readAt_unit_zero (Elt F) cc0_scratch0 hz2 _ v] at h
  exact h
theorem store_acc {hx hm} {v w : Vec F S1x1024 .f32} {k : PUnit → Prog (TpuEff nD τ sig (Elt F) Λ₀ .tc) α} {Q : α → sProp 𝕄} :
    accP c v ⊢ iprop((accP c w -∗ WP c (k ⟨⟩) Q) -∗ WP c (.op (.store accM rA w Finset.univ hx hm) k) Q) := by
  have h := wp_store (defs := defs₀ (F := F)) 𝒱₀ (c : Thread nD τ) none (Γ := .empty) Set.univ (m := accM) (r := rA) (w := w) (Mk := Finset.univ) (hx := hx) (hm := hm) (k := k) (Q := Q) (f := v) (Finset.subset_univ _)
  rw [show ((accM.access rA).write (Elt F) v w Finset.univ) = w from Memref.write_access_unit_zero_univ (Elt F) cc0_scratch0 hz2 _ v w] at h
  exact h
theorem load_idx {hl} {v : Vec F S1x1024 .i32} {k : Vec F S1x1024 .i32 → Prog (TpuEff nD τ sig (Elt F) Λ₀ .tc) α} {Q : α → sProp 𝕄} :
    idxP c v ⊢ iprop((idxP c v -∗ WP c (k v) Q) -∗ WP c (.op (.load idxM rA.toLoadRect hl) k) Q) := by
  have h := wp_load (defs := defs₀ (F := F)) 𝒱₀ (c : Thread nD τ) none (Γ := .empty) Set.univ (m := idxM) (r := rA.toLoadRect) (hl := hl) (k := k) (Q := Q) (q := fullShare) (f := v) (Finset.subset_univ _)
  rw [show idxM.view.readAt (Elt F) rA.toLoadRect v = v from Memref.readAt_unit_zero (Elt F) cc0_scratch1 hz2 _ v] at h
  exact h
theorem store_idx {hx hm} {v w : Vec F S1x1024 .i32} {k : PUnit → Prog (TpuEff nD τ sig (Elt F) Λ₀ .tc) α} {Q : α → sProp 𝕄} :
    idxP c v ⊢ iprop((idxP c w -∗ WP c (k ⟨⟩) Q) -∗ WP c (.op (.store idxM rA w Finset.univ hx hm) k) Q) := by
  have h := wp_store (defs := defs₀ (F := F)) 𝒱₀ (c : Thread nD τ) none (Γ := .empty) Set.univ (m := idxM) (r := rA) (w := w) (Mk := Finset.univ) (hx := hx) (hm := hm) (k := k) (Q := Q) (f := v) (Finset.subset_univ _)
  rw [show ((idxM.access rA).write (Elt F) v w Finset.univ) = w from Memref.write_access_unit_zero_univ (Elt F) cc0_scratch1 hz2 _ v w] at h
  exact h
theorem load_comm {hl} {v : Vec F S16x2x1024 .f32} {k : Vec F S16x2x1024 .f32 → Prog (TpuEff nD τ sig (Elt F) Λ₀ .tc) α} {Q : α → sProp 𝕄} :
    commP c v ⊢ iprop((commP c v -∗ WP c (k v) Q) -∗ WP c (.op (.load commM rC.toLoadRect hl) k) Q) := by
  have h := wp_load (defs := defs₀ (F := F)) 𝒱₀ (c : Thread nD τ) none (Γ := .empty) Set.univ (m := commM) (r := rC.toLoadRect) (hl := hl) (k := k) (Q := Q) (q := fullShare) (f := v) (Finset.subset_univ _)
  rw [show commM.view.readAt (Elt F) rC.toLoadRect v = v from Memref.readAt_unit_zero (Elt F) cc0_scratch2 hz3 _ v] at h
  exact h

/-- The whole block read from the input's staging buffer. -/
theorem load_in (arg1 : Memref sig .tc .vmem S1024x1024 .f32)
    {hl : arg1.view.LoadsAt (Rect.unit (s := S1024x1024) ![0, 0] S1024x1024.size inb_S1024x1024_S1024x1024_0_0).toLoadRect} {X : Vec F S1024x1024 .f32} {k : Vec F S1024x1024 .f32 → Prog (TpuEff nD τ sig (Elt F) Λ₀ .tc) α} {Q : α → sProp 𝕄} :
    owns (c : Thread nD τ) arg1 fullShare X ⊢ iprop((owns (c : Thread nD τ) arg1 fullShare X -∗ WP c (k X) Q)
      -∗ WP c (.op (.load arg1 (Rect.unit (s := S1024x1024) ![0, 0] S1024x1024.size inb_S1024x1024_S1024x1024_0_0).toLoadRect hl) k) Q) := by
  unfold owns
  iintro ⟨%f, %hf, H⟩ Hk
  iapply (wp_load 𝒱₀ (c : Thread nD τ) none (Γ := .empty) Set.univ (m := arg1) (View.setOn_subset_set _ _)) $$ H; iintro H
  rw [View.readAt_full, hf]
  iapply Hk
  iexists f
  isplitr; · ipureintro; exact hf
  iexact H

end Buffers

abbrev rV : Rect S16x2x1024 := Rect.unit (s := S16x2x1024) ![0, 0, 0] S1x1x1024.size inb_S16x2x1024_S1x1x1024_0_0_0
abbrev rI : Rect S16x2x1024 := Rect.unit (s := S16x2x1024) ![0, 1, 0] S1x1x1024.size inb_S16x2x1024_S1x1x1024_0_1_0

/-! ## The running maximum carried on -/

section Points
variable (i : grid0.Coords)
  (arg1 : Memref sig .tc .vmem S1024x1024 .f32) (harg1 : arg1.IsWhole) (arg2 : Memref sig .tc .vmem S2x1024 .f32) (harg2 : arg2.IsWhole)

/-- The conditions of the body's second and third branch. -/
abbrev first : BitVec 1 := Scalar.cmpi .ne (Scalar.extui (Scalar.cmpi .eq (BitVec.ofNat 32 (i 0).val) 0#32) : BitVec 32) 0#32
abbrev later : BitVec 1 := Scalar.cmpi .ne (Scalar.extui (Scalar.cmpi .sgt (BitVec.ofNat 32 (i 0).val) 0#32) : BitVec 32) 0#32

/-- The body as called: on the staging buffers it is handed and its own three buffers. -/
abbrev bodyP : Prog (TpuEff nD τ sig (Elt F) Λ₀ .tc) PUnit :=
  cc0_body i arg1 harg1 arg2 harg2 accM (Memref.isWhole_whole _) idxM (Memref.isWhole_whole _) commM (Memref.isWhole_whole _) cc0_scratch3 cc0_scratch4

/-- A middle point: the running maximum and its row carried on. -/
theorem body_mid (h1 : ¬ k0_cond1 i = 1#1) (h2 : ¬ first i = 1#1) (h3 : later i = 1#1) (h4 : ¬ k0_cond4 i = 1#1)
    (X : Vec F S1024x1024 .f32) (v : Vec F S1x1024 .f32) (w : Vec F S1x1024 .i32) {Q : PUnit → sProp 𝕄} :
    iprop(owns (c : Thread nD τ) arg1 fullShare X ∗ accP c v ∗ idxP c w)
      ⊢ iprop(((owns (c : Thread nD τ) arg1 fullShare X ∗ accP c (k0_pay7 X v v) ∗ idxP c (k0_pay8 i X v w)) -∗ Q ⟨⟩)
        -∗ WP c (bodyP i arg1 harg1 arg2 harg2) Q) := by
  unfold bodyP
  rw [cc0_body_eq_skeleton]; unfold cc0_body_skel
  simp only [dif_neg h1, dif_neg h4, dif_neg h2, dif_pos h3, Prog.lift, Prog.bind_op, Prog.bind_ret, Prog.pure_eq_ret, wp_deviceId]
  iintro ⟨HX, Hv, Hw⟩ Hk
  iapply (load_in c arg1) $$ HX; iintro HX
  iapply (load_acc c) $$ Hv; iintro Hv
  iapply (load_acc c) $$ Hv; iintro Hv
  iapply (load_acc c) $$ Hv; iintro Hv
  iapply (store_acc c) $$ Hv; iintro Hv
  iapply (load_idx c) $$ Hw; iintro Hw
  iapply (load_idx c) $$ Hw; iintro Hw
  iapply (store_idx c) $$ Hw; iintro Hw
  iapply (ret_intro c); iapply Hk
  isplitl [HX]; · iexact HX
  isplitl [Hv]; · iexact Hv
  iexact Hw

end Points

/-! ## Slot 0 written -/

/-- Where the two accesses of slot 0 keep their entries. -/
theorem rV_emb (x : S1x1x1024.Idx) : (commM.access rV).emb x = (ix3 0 0 (x 2) : S16x2x1024.Idx) := by
  funext a; apply Fin.ext
  refine (ValueKit.rect_emb_unit_val _ _ _ x a).trans ?_
  have h0 : (x 0).val < 1 := (x 0).isLt
  have h1 : (x 1).val < 1 := (x 1).isLt
  fin_cases a
  · show 0 + (x 0).val = 0; omega
  · show 0 + (x 1).val = 0; omega
  · show 0 + (x 2).val = (x 2).val; omega
theorem rI_emb (x : S1x1x1024.Idx) : (commM.access rI).emb x = (ix3 0 1 (x 2) : S16x2x1024.Idx) := by
  funext a; apply Fin.ext
  refine (ValueKit.rect_emb_unit_val _ _ _ x a).trans ?_
  have h0 : (x 0).val < 1 := (x 0).isLt
  have h1 : (x 1).val < 1 := (x 1).isLt
  fin_cases a
  · show 0 + (x 0).val = 0; omega
  · show 1 + (x 1).val = 1; omega
  · show 0 + (x 2).val = (x 2).val; omega

/-- Both stay within the slot. -/
theorem rV_slot : (commM.access rV).set ⊆ (slotM 0).view.set := by
  intro x hx
  obtain ⟨y, -, rfl⟩ := Finset.mem_map.mp hx
  exact (mem_slotSet 0 _).mpr (by rw [rV_emb])
theorem rI_slot : (commM.access rI).set ⊆ (slotM 0).view.set := by
  intro x hx
  obtain ⟨y, -, rfl⟩ := Finset.mem_map.mp hx
  exact (mem_slotSet 0 _).mpr (by rw [rI_emb])

/-- The row pair written into slot 0 is what the exchange buffer holds there in the end. -/
theorem own_slot (f : Vec F S16x2x1024 .f32) (r : Fin 2) (k : Fin 1024) :
    (commM.access rI).write (Elt F) ((commM.access rV).write (Elt F) f (rowV m c) Finset.univ) (rowI m c) Finset.univ (ix3 0 r k)
      = commF m c (ix3 0 r k) := by
  fin_cases r
  · have hn : (ix3 0 0 k : S16x2x1024.Idx) ∉ (commM.access rI).setOn Finset.univ := by
      intro h
      obtain ⟨y, -, hy⟩ := Finset.mem_map.mp h
      rw [rI_emb] at hy
      exact absurd (congrArg Fin.val (congrFun hy 1)) (show (1 : ℕ) ≠ 0 by decide)
    refine (View.write_of_not_mem _ _ _ hn).trans ?_
    have h := View.write_emb_of_mem (v := commM.access rV) (Val := Elt F) (M := Finset.univ) f (rowV m c) (Finset.mem_univ (ix3 0 0 k))
    rw [rV_emb] at h
    refine h.trans ?_
    show rowV m c (ix3 0 0 k) = rowV m (from_ c 0) (ix3 0 0 k)
    rw [from_zero]
  · have h := View.write_emb_of_mem (v := commM.access rI) (Val := Elt F) (M := Finset.univ) ((commM.access rV).write (Elt F) f (rowV m c) Finset.univ) (rowI m c) (Finset.mem_univ (ix3 0 0 k))
    rw [rI_emb] at h
    refine h.trans ?_
    show rowI m c (ix3 0 0 k) = rowI m (from_ c 0) (ix3 0 0 k)
    rw [from_zero]

section Slot0
variable {α : Type}

/-- The accesses to slot 0, the slot held: what a load reads of it is not used. -/
theorem load_slot (r : Rect S16x2x1024) (hr : (commM.access r).set ⊆ (slotM 0).view.set) {hl : commM.view.LoadsAt r.toLoadRect} {f : Vec F S16x2x1024 .f32}
    {k : (r.shape.Idx → Elt F .f32) → Prog (TpuEff nD τ sig (Elt F) Λ₀ .tc) α} {Q : α → sProp 𝕄} :
    slotPts c 0 fullShare f ⊢ iprop((∀ w, slotPts c 0 fullShare f -∗ WP c (k w) Q) -∗ WP c (.op (.load commM r.toLoadRect hl) k) Q) := by
  unfold slotPts
  iintro H Hk
  iapply (wp_load_rect (defs := defs₀ (F := F)) 𝒱₀ (c : Thread nD τ) none (Γ := .empty) Set.univ (m := commM) (r := r) (hl := hl) (k := k) (Q := Q) (q := fullShare) (f := f) hr) $$ H
  iapply Hk
theorem store_slot (r : Rect S16x2x1024) (hr : (commM.access r).set ⊆ (slotM 0).view.set) {hx hm} {f : Vec F S16x2x1024 .f32} {w : r.shape.Idx → Elt F .f32}
    {k : PUnit → Prog (TpuEff nD τ sig (Elt F) Λ₀ .tc) α} {Q : α → sProp 𝕄} :
    slotPts c 0 fullShare f ⊢ iprop((slotPts c 0 fullShare ((commM.access r).write (Elt F) f w Finset.univ) -∗ WP c (k ⟨⟩) Q)
      -∗ WP c (.op (.store commM r w Finset.univ hx hm) k) Q) := by
  unfold slotPts
  exact wp_store (defs := defs₀ (F := F)) 𝒱₀ (c : Thread nD τ) none (Γ := .empty) Set.univ (m := commM) (r := r) (w := w) (Mk := Finset.univ) (hx := hx) (hm := hm) (k := k) (Q := Q) (f := f)
    ((View.setOn_subset_set _ _).trans hr)

end Slot0

/-! ## The barrier -/

variable (i : grid0.Coords)
  (arg1 : Memref sig .tc .vmem S1024x1024 .f32) (harg1 : arg1.IsWhole) (arg2 : Memref sig .tc .vmem S2x1024 .f32) (harg2 : arg2.IsWhole)

/-- Before the barrier: the maxima found, slot 0 with anything in it, the device's place and credit at its barrier. -/
def Bar0 : sProp 𝕄 :=
  iprop((∃ W, owes (c : Thread nD τ) (owedR c 0) W) ∗ atPos ER (barCell c) 0 ∅ 0 ∗ cred (tallyAt (barCell c) () 15) ∗ levAts L lv
    ∗ accP c (accV m c 3) ∗ idxP c (accI m c 3) ∗ ∃ f, slotPts c 0 fullShare f)
/-- After it: slot 0 holds the row pair, and every other device's slot is here. -/
def Bar1 : sProp 𝕄 :=
  iprop((∃ W, owes (c : Thread nD τ) (owedR c 0) W) ∗ atPos ER (barCell c) 1 ∅ 0
    ∗ accP c (accV m c 3) ∗ idxP c (accI m c 3) ∗ slotPts c 0 fullShare (commF m c) ∗ bigSep Finset.univ (barPay (F := F) c))

/-- The row pair stored, and the wait for the fifteen signals. -/
theorem part7 {Q} : (records m K : sProp 𝕄) ⊢ iprop(Bar0 m c -∗ (∀ r, Bar1 m c -∗ Q r)
    -∗ WP c (k0_part7 i arg1 harg1 arg2 harg2 accM (Memref.isWhole_whole _) idxM (Memref.isWhole_whole _) commM (Memref.isWhole_whole _) cc0_scratch3 cc0_scratch4 (dword c) barM) Q) := by
  rw [k0_part7_eq_skeleton]; unfold k0_part7_skel Bar0
  simp only [semWaitWord, Prog.lift, Prog.bind_op, Prog.bind_ret, Prog.pure_eq_ret]
  iintro #HR ⟨⟨%W, HO⟩, HatB, HcB, #Hlev, Hv, Hw, ⟨%f, Hs⟩⟩ Hk
  iapply (load_acc c) $$ Hv; iintro Hv
  iapply (load_slot c rV rV_slot) $$ Hs; iintro %_ Hs
  iapply (store_slot c rV rV_slot) $$ Hs; iintro Hs
  iapply (load_idx c) $$ Hw; iintro Hw
  iapply (load_slot c rI rI_slot) $$ Hs; iintro %_ Hs
  iapply (store_slot c rI rI_slot) $$ Hs; iintro Hs
  icases (records_at m K (c, .inl ())) $$ HR with ⟨#HI, -⟩
  iapply (Rounds.wp_wait_rest_token 𝒱₀ ER (Rd m) (c : Thread nD τ) none (κ := K (c, .inl ())) (wpE_semWait_eq 𝒱₀ (c : Thread nD τ) none Set.univ) (Set.mem_univ _) ()
    (O := owedR c 0) (W := W) (R := 0) (m := 0) (T := ∅) (by rw [expect_bar]; decide)) $$ [HcB HO HatB]
  · isplitr; · iexact HI
    isplitl [HcB]; · iexact HcB
    isplitl [HO]; · iexact HO
    isplitr; · iapply (mayWait_bar c 0); iexact Hlev
    iexact HatB
  iintro ⟨HO, HatB, -, Hpay⟩
  ihave Hp := (Entails.of_eq (rest_bar m c)) $$ Hpay
  iapply (ret_intro c); iapply Hk
  unfold Bar1
  isplitl [HO]; · iexists _; iexact HO
  isplitl [HatB]; · iexact HatB
  isplitl [Hv]; · iexact Hv
  isplitl [Hw]; · iexact Hw
  isplitl [Hs]
  · iapply (Entails.of_eq (slotPts_congr c 0 fullShare _ _ (own_slot m c f)))
    iexact Hs
  iexact Hp

/-! ## The exchange buffer whole again, and the semaphores closed -/

/-- Slot 0's parts come back from the copies, the other slots from the other devices. -/
theorem comm_joined : iprop(bigSep Finset.univ (sendPay m c) ∗ bigSep Finset.univ (recvPay m c)) ⊢ (commP c (commF m c) : sProp 𝕄) := by
  unfold commP
  rw [comm_slots, bigSep_univ_succ (fun s : Fin 16 => slotPts c s fullShare (commF m c)), slot_parts c 0]
  exact BI.Entails.refl _

/-- A semaphore past its round is at zero for good. -/
theorem close_at (ck : Dev nD × CI) : iprop(records m K ∗ atPos ER (kcell ck) 1 ∅ 0) ⊢ iprop(|={Set.univ}=> semVal (kcell ck) 0 : sProp 𝕄) := by
  iintro ⟨#HR, Hat⟩
  icases (records_at m K ck) $$ HR with ⟨#HI, -⟩
  iapply (cell_close ER (Rd m) (Set.mem_univ (K ck)) (fun h => h) (R := 1) (duties_later m _))
  isplitr; · iexact HI
  iexact Hat

omit [FloatOps F] in
/-- A device's semaphores: its barrier, its send semaphores, its receive semaphores. -/
theorem cells_split (Φ : CI → sProp 𝕄) : bigSep Finset.univ Φ
    = iprop(Φ (.inl ()) ∗ bigSep Finset.univ (fun j => Φ (.inr (.inl j))) ∗ bigSep Finset.univ (fun j => Φ (.inr (.inr j)))) := by
  rw [BI.bigSep_univ_sum, BI.bigSep_univ_of_subsingleton (), BI.bigSep_univ_sum]
  rfl

/-- All of a device's. -/
theorem cells_closed : iprop(records m K ∗ atPos ER (barCell c) 1 ∅ 0 ∗ bigSep Finset.univ (fun j => atPos ER (sendCell c j) 1 ∅ 0)
      ∗ bigSep Finset.univ (fun j => atPos ER (recvCell c j) 1 ∅ 0))
    ⊢ iprop(|={Set.univ}=> bigSep Finset.univ (fun k : CI => semVal (kcell (c, k)) 0) : sProp 𝕄) := by
  have h : iprop(records m K ∗ bigSep Finset.univ (fun k : CI => atPos ER (kcell (c, k)) 1 ∅ 0))
      ⊢ iprop(|={Set.univ}=> bigSep Finset.univ (fun k : CI => semVal (kcell (c, k)) 0) : sProp 𝕄) :=
    (bigSep_with_persistent fun k _ => close_at m K (c, k)).trans (bigSep_fupd _ _)
  refine BIBase.Entails.trans ?_ h
  iintro ⟨#HR, HB, HS, HV⟩
  isplitr; · iexact HR
  rw [cells_split]
  isplitl [HB]; · iexact HB
  isplitl [HS]; · iexact HS
  iexact HV

end Cert.ArgmaxProof

end
-- ==== Proof.Last.lean ====
/-
The body at the first and at the last grid point.
-/
module

public import proofs.«01_k».proof.Proof.Body

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (K : Dev nD × CI → ℕ) (c : Dev nD)

variable (i : grid0.Coords)
  (arg1 : Memref sig .tc .vmem S1024x1024 .f32) (harg1 : arg1.IsWhole) (arg2 : Memref sig .tc .vmem S2x1024 .f32) (harg2 : arg2.IsWhole)

/-- A program's first part, then the rest. -/
theorem bind_intro {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  exact Entails.of_eq (wp_bind _ _ _ _ _ _).symm

/-- The first point: the fifteen signals sent, the running maximum and its row started. -/
theorem body_first (h1 : k0_cond1 i = 1#1) (h2 : first i = 1#1) (h3 : ¬ later i = 1#1) (h4 : ¬ k0_cond4 i = 1#1)
    (X : Vec F S1024x1024 .f32) {Q : PUnit → sProp 𝕄} :
    (records m K : sProp 𝕄) ⊢ iprop((SigSt (F := F) c 0 ∗ owns (c : Thread nD τ) arg1 fullShare X ∗ (∃ v, accP (F := F) c v) ∗ ∃ w, idxP (F := F) c w)
      -∗ ((SigSt (F := F) c 15 ∗ owns (c : Thread nD τ) arg1 fullShare X ∗ accP c (k0_pay4 X) ∗ idxP c (k0_pay5 i X)) -∗ Q ⟨⟩)
        -∗ WP c (bodyP i arg1 harg1 arg2 harg2) Q) := by
  unfold bodyP
  rw [cc0_body_eq_skeleton]; unfold cc0_body_skel
  simp only [dif_pos h1, dif_neg h4, dif_pos h2, dif_neg h3, Prog.lift, Prog.bind_op, Prog.bind_ret, Prog.pure_eq_ret, wp_deviceId]
  iintro #HR ⟨H, HX, ⟨%v, Hv⟩, ⟨%w, Hw⟩⟩ Hk
  iapply (bind_intro c)
  iapply (part1 m K c i arg1 harg1 arg2 harg2) $$ HR H; iintro %r1 H
  iapply (bind_intro c)
  iapply (part2 m K c i arg1 harg1 arg2 harg2) $$ HR H; iintro %_ H
  iapply (bind_intro c)
  iapply (part3 m K c i arg1 harg1 arg2 harg2) $$ HR H; iintro %r3 H
  iapply (bind_intro c)
  iapply (part4 m K c i arg1 harg1 arg2 harg2) $$ HR H; iintro %_ H
  iapply (bind_intro c)
  iapply (part5 m K c i arg1 harg1 arg2 harg2) $$ HR H; iintro %r5 H
  iapply (bind_intro c)
  iapply (part6 m K c i arg1 harg1 arg2 harg2) $$ HR H; iintro %_ H
  iapply (load_in c arg1) $$ HX; iintro HX
  iapply (load_acc c) $$ Hv; iintro Hv
  iapply (store_acc c) $$ Hv; iintro Hv
  iapply (load_idx c) $$ Hw; iintro Hw
  iapply (store_idx c) $$ Hw; iintro Hw
  iapply (ret_intro c); iapply Hk
  isplitl [H]; · iexact H
  isplitl [HX]; · iexact HX
  isplitl [Hv]; · iexact Hv
  iexact Hw

/-! ## The result -/

/-- The result: the maxima in row 0, their rows in row 1. -/
def outAt : Vec F S2x1024 .f32 := fun x =>
  if (x 0).val = 0 then k0_pay11 (commF m c) (ix2 0 (x 1)) else k0_pay12 (commF m c) (ix2 0 (x 1))

abbrev r0 : Rect S2x1024 := Rect.unit (s := S2x1024) ![0, 0] S1x1024.size inb_S2x1024_S1x1024_0_0
abbrev r1 : Rect S2x1024 := Rect.unit (s := S2x1024) ![1, 0] S1x1024.size inb_S2x1024_S1x1024_1_0

theorem r0_emb (x : S1x1024.Idx) : r0.emb x = (ix2 0 (x 1) : S2x1024.Idx) := by
  funext a; apply Fin.ext
  refine (ValueKit.rect_emb_unit_val _ _ _ x a).trans ?_
  have h0 : (x 0).val < 1 := (x 0).isLt
  fin_cases a
  · show 0 + (x 0).val = 0; omega
  · show 0 + (x 1).val = (x 1).val; omega
theorem r1_emb (x : S1x1024.Idx) : r1.emb x = (ix2 1 (x 1) : S2x1024.Idx) := by
  funext a; apply Fin.ext
  refine (ValueKit.rect_emb_unit_val _ _ _ x a).trans ?_
  have h0 : (x 0).val < 1 := (x 0).isLt
  fin_cases a
  · show 1 + (x 0).val = 1; omega
  · show 0 + (x 1).val = (x 1).val; omega

/-- A buffer written row by row, read back. -/
theorem out_read (f : arg2.view.ty.Contents (Elt F)) (w0 w1 : Vec F S1x1024 .f32) :
    arg2.view.read (Elt F) ((arg2.access r1).write (Elt F) ((arg2.access r0).write (Elt F) f w0 Finset.univ) w1 Finset.univ)
      = fun x => if (x 0).val = 0 then w0 (ix2 0 (x 1)) else w1 (ix2 0 (x 1)) := by
  funext x
  by_cases hx : (x 0).val = 0
  · rw [if_pos hx]
    have ex : x = r0.emb (ix2 0 (x 1) : S1x1024.Idx) := by
      rw [r0_emb]; funext a; apply Fin.ext
      fin_cases a
      · exact hx
      · rfl
    have hn : arg2.view.emb x ∉ (arg2.access r1).setOn Finset.univ := by
      intro h
      obtain ⟨y, -, hy⟩ := Finset.mem_map.mp h
      have hy' : r1.emb y = x := arg2.view.emb.injective hy
      rw [r1_emb] at hy'
      have := congrArg Fin.val (congrFun hy' 0)
      rw [hx] at this
      exact absurd this (show (1 : ℕ) ≠ 0 by decide)
    rw [View.read_apply, View.write_of_not_mem _ _ _ hn]
    have h := View.write_emb_of_mem (v := arg2.access r0) (Val := Elt F) (M := Finset.univ) f w0 (Finset.mem_univ (ix2 0 (x 1)))
    have he : (arg2.access r0).emb (ix2 0 (x 1) : S1x1024.Idx) = arg2.view.emb x := congrArg arg2.view.emb ex.symm
    rw [(congrArg ((arg2.access r0).write (Elt F) f w0 Finset.univ) he).symm.trans h]
    exact (cast_cast _ _ _).trans (cast_eq _ _)
  · rw [if_neg hx]
    have ex : x = r1.emb (ix2 0 (x 1) : S1x1024.Idx) := by
      rw [r1_emb]; funext a; apply Fin.ext
      have h2 : (x 0).val < 2 := (x 0).isLt
      fin_cases a
      · show (x 0).val = 1; omega
      · rfl
    rw [View.read_apply]
    have h := View.write_emb_of_mem (v := arg2.access r1) (Val := Elt F) (M := Finset.univ) ((arg2.access r0).write (Elt F) f w0 Finset.univ) w1 (Finset.mem_univ (ix2 0 (x 1)))
    have he : (arg2.access r1).emb (ix2 0 (x 1) : S1x1024.Idx) = arg2.view.emb x := congrArg arg2.view.emb ex.symm
    rw [(congrArg ((arg2.access r1).write (Elt F) ((arg2.access r0).write (Elt F) f w0 Finset.univ) w1 Finset.univ) he).symm.trans h]
    exact (cast_cast _ _ _).trans (cast_eq _ _)

theorem access_sub (r : Rect S2x1024) : (arg2.access r).setOn Finset.univ ⊆ arg2.view.set :=
  (View.setOn_subset_set _ _).trans (View.set_slice_subset _ _)

/-! ## The last point -/

/-- What device `c` holds from the start to the last point besides its buffers: its places, the credit at its barrier and
with what its copies deliver, and the duties its copies pay. -/
def Kept : sProp 𝕄 :=
  iprop(levAts L lv ∗ atPos ER (barCell c) 0 ∅ 0 ∗ cred (tallyAt (barCell c) () 15)
    ∗ bigSep Finset.univ (fun j => dutyTok ER (sendCell c j) 0 0) ∗ bigSep Finset.univ (fun j => dutyTok ER (recvCell (sh j c) j) 0 0)
    ∗ bigSep Finset.univ (fun j => atPos ER (sendCell c j) 0 ∅ 0) ∗ bigSep Finset.univ (waitTok m (recvFam m) c))

/-- After the barrier the copies begin. -/
theorem sends_start :
    iprop((∃ W, owes (c : Thread nD τ) (owedR c 0) W) ∗ bigSep Finset.univ (fun j => dutyTok ER (sendCell c j) 0 0)
      ∗ bigSep Finset.univ (fun j => dutyTok ER (recvCell (sh j c) j) 0 0) ∗ slotPts c 0 fullShare (commF m c) ∗ bigSep Finset.univ (barPay (F := F) c))
      ⊢ (SendSt m c 0 : sProp 𝕄) := by
  unfold SendSt
  rw [bigSep_finFrom_zero, bigSep_finUpTo_zero, slot_parts]
  unfold cpyTok
  rw [bigSep_sep', bigSep_sep', bigSep_sep']
  iintro ⟨HO, H1, H2, H3, H4⟩
  isplitl [HO]; · iexact HO
  isplitl
  · isplitl [H1]; · iexact H1
    isplitl [H2]; · iexact H2
    isplitl [H3]; · iexact H3
    iexact H4
  iempintro

/-- The waits all over: every copy's semaphores are past their round, and its payments are here. -/
theorem waits_end :
    iprop(WaitSt m (recvFam m) c 15 ∗ bigSep Finset.univ (waitGot m (sendFam m) c))
      ⊢ (iprop((∃ W, owes (c : Thread nD τ) 0 W) ∗ bigSep Finset.univ (fun j => atPos ER (sendCell c j) 1 ∅ 0)
        ∗ bigSep Finset.univ (fun j => atPos ER (recvCell c j) 1 ∅ 0) ∗ bigSep Finset.univ (sendPay m c) ∗ bigSep Finset.univ (recvPay m c)) : sProp 𝕄) := by
  unfold WaitSt
  rw [bigSep_finUpTo_self]
  unfold waitGot
  rw [bigSep_sep', bigSep_sep']
  iintro ⟨⟨HO, -, HatR, HpR⟩, HatS, HpS⟩
  isplitl [HO]; · iexact HO
  isplitl [HatS]; · iexact HatS
  isplitl [HatR]; · iexact HatR
  isplitl [HpS]; · iexact HpS
  iexact HpR

/-- The last point: the running maximum finished, the row pairs exchanged, the result written, the semaphores closed. -/
theorem body_last (h1 : ¬ k0_cond1 (grid0.coords (tN 3)) = 1#1) (h2 : ¬ first (grid0.coords (tN 3)) = 1#1) (h3 : later (grid0.coords (tN 3)) = 1#1)
    (h4 : k0_cond4 (grid0.coords (tN 3)) = 1#1) {Q : PUnit → sProp 𝕄} :
    (records m K : sProp 𝕄) ⊢ iprop((Kept m c ∗ (∃ W, owes (c : Thread nD τ) (owedR c 0) W) ∗ owns (c : Thread nD τ) arg1 fullShare (xblk m c (tN 3))
        ∗ (∃ d, owns (c : Thread nD τ) arg2 fullShare d) ∗ accP c (accV m c 2) ∗ idxP c (accI m c 2) ∗ ∃ f, slotPts c 0 fullShare f)
      -∗ (((∃ W, owes (c : Thread nD τ) 0 W) ∗ owns (c : Thread nD τ) arg1 fullShare (xblk m c (tN 3))
        ∗ owns (c : Thread nD τ) arg2 fullShare (outAt m c) ∗ accP c (accV m c 3) ∗ idxP c (accI m c 3) ∗ commP c (commF m c)
        ∗ bigSep Finset.univ (fun k : CI => semVal (kcell (c, k)) 0)) -∗ Q ⟨⟩)
        -∗ WP c (bodyP (grid0.coords (tN 3)) arg1 harg1 arg2 harg2) Q) := by
  unfold bodyP
  rw [cc0_body_eq_skeleton]; unfold cc0_body_skel Kept
  simp only [dif_neg h1, dif_pos h4, dif_neg h2, dif_pos h3, Prog.lift, Prog.bind_op, Prog.bind_ret, Prog.pure_eq_ret, wp_deviceId]
  iintro #HR ⟨⟨#Hlev, HatB, HcB, HtS, HtR, HatS, HwR⟩, HO, HX, ⟨%d, HY⟩, Hv, Hw, Hs⟩ Hk
  iapply (load_in c arg1) $$ HX; iintro HX
  iapply (load_acc c) $$ Hv; iintro Hv
  iapply (load_acc c) $$ Hv; iintro Hv
  iapply (load_acc c) $$ Hv; iintro Hv
  iapply (store_acc c) $$ Hv; iintro Hv
  iapply (load_idx c) $$ Hw; iintro Hw
  iapply (load_idx c) $$ Hw; iintro Hw
  iapply (store_idx c) $$ Hw; iintro Hw
  iapply (bind_intro c)
  ihave H := (show iprop(levAts L lv ∗ atPos ER (barCell c) 0 ∅ 0 ∗ cred (tallyAt (barCell c) () 15) ∗ (∃ W, owes (c : Thread nD τ) (owedR c 0) W)
      ∗ accP c (accV m c 3) ∗ idxP c (accI m c 3) ∗ ∃ f, slotPts c 0 fullShare f) ⊢ (Bar0 m c : sProp 𝕄) from by
    unfold Bar0
    iintro ⟨H1, H2, H3, H4, H5, H6, H7⟩
    isplitl [H4]; · iexact H4
    isplitl [H2]; · iexact H2
    isplitl [H3]; · iexact H3
    isplitl [H1]; · iexact H1
    isplitl [H5]; · iexact H5
    isplitl [H6]; · iexact H6
    iexact H7) $$ [HatB HcB HO Hv Hw Hs]
  · isplitr; · iexact Hlev
    isplitl [HatB]; · iexact HatB
    isplitl [HcB]; · iexact HcB
    isplitl [HO]; · iexact HO
    isplitl [Hv]; · iexact Hv
    isplitl [Hw]; · iexact Hw
    iexact Hs
  iapply (part7 m K c (grid0.coords (tN 3)) arg1 harg1 arg2 harg2) $$ HR H; iintro %v47 H
  unfold Bar1
  icases H with ⟨HO, HatB, Hv, Hw, Hs, HpB⟩
  ihave H := (sends_start m c) $$ [HO HtS HtR Hs HpB]
  · isplitl [HO]; · iexact HO
    isplitl [HtS]; · iexact HtS
    isplitl [HtR]; · iexact HtR
    isplitl [Hs]; · iexact Hs
    iexact HpB
  iapply (bind_intro c); iapply (part8 m K c (grid0.coords (tN 3)) arg1 harg1 arg2 harg2) $$ HR H; iintro %r8 H
  iapply (bind_intro c); iapply (part9 m K c (grid0.coords (tN 3)) arg1 harg1 arg2 harg2) $$ HR H; iintro %r9 H
  iapply (bind_intro c); iapply (part10 m K c (grid0.coords (tN 3)) arg1 harg1 arg2 harg2) $$ HR H; iintro %r10 H
  iapply (bind_intro c); iapply (part11 m K c (grid0.coords (tN 3)) arg1 harg1 arg2 harg2) $$ HR H; iintro %r11 H
  iapply (bind_intro c); iapply (part12 m K c (grid0.coords (tN 3)) arg1 harg1 arg2 harg2) $$ HR H; iintro %r12 H
  iapply (bind_intro c); iapply (part13 m K c (grid0.coords (tN 3)) arg1 harg1 arg2 harg2) $$ HR H; iintro %r13 H
  iapply (bind_intro c); iapply (part14 m K c (grid0.coords (tN 3)) arg1 harg1 arg2 harg2) $$ HR H; iintro %r14 H
  iapply (bind_intro c); iapply (part15 m K c (grid0.coords (tN 3)) arg1 harg1 arg2 harg2) $$ HR H; iintro %r15 H
  iapply (bind_intro c); iapply (part16 m K c (grid0.coords (tN 3)) arg1 harg1 arg2 harg2) $$ HR H; iintro %r16 H
  iapply (bind_intro c); iapply (part17 m K c (grid0.coords (tN 3)) arg1 harg1 arg2 harg2) $$ HR [H HatS]
  · isplitl [H]; · iexact H
    iexact HatS
  iintro %_ H
  iapply (bind_intro c); iapply (part18 m K c (grid0.coords (tN 3)) arg1 harg1 arg2 harg2) $$ HR H; iintro %_ H
  iapply (bind_intro c); iapply (part19 m K c (grid0.coords (tN 3)) arg1 harg1 arg2 harg2) $$ HR H; iintro %_ H
  iapply (bind_intro c); iapply (part20 m K c (grid0.coords (tN 3)) arg1 harg1 arg2 harg2) $$ HR H; iintro %_ H
  iapply (bind_intro c); iapply (part21 m K c (grid0.coords (tN 3)) arg1 harg1 arg2 harg2) $$ HR [H HwR]
  · isplitl [H]; · iexact H
    iexact HwR
  iintro %r21 ⟨H, HgS⟩
  iapply (bind_intro c); iapply (part22 m K c (grid0.coords (tN 3)) arg1 harg1 arg2 harg2) $$ HR H; iintro %_ H
  iapply (bind_intro c); iapply (part23 m K c (grid0.coords (tN 3)) arg1 harg1 arg2 harg2) $$ HR H; iintro %_ H
  iapply (bind_intro c); iapply (part24 m K c (grid0.coords (tN 3)) arg1 harg1 arg2 harg2) $$ HR H; iintro %_ H
  iapply (bind_intro c); iapply (part25 m K c (grid0.coords (tN 3)) arg1 harg1 arg2 harg2) $$ HR H; iintro %_ H
  ihave H := (waits_end m c) $$ [H HgS]
  · isplitl [H]; · iexact H
    iexact HgS
  icases H with ⟨HO, HatS, HatR, HpS, HpR⟩
  ihave Hc := (comm_joined m c) $$ [HpS HpR]
  · isplitl [HpS]; · iexact HpS
    iexact HpR
  imod (cells_closed m K c) $$ [HatB HatS HatR] with Hz
  · isplitr; · iexact HR
    isplitl [HatB]; · iexact HatB
    isplitl [HatS]; · iexact HatS
    iexact HatR
  iapply (load_comm c) $$ Hc; iintro Hc
  unfold owns
  icases HY with ⟨%g, %hg, HY⟩
  iapply (wp_load 𝒱₀ (c : Thread nD τ) none Set.univ (m := arg2) (View.setOn_subset_set _ _)) $$ HY; iintro HY
  iapply (wp_store 𝒱₀ (c : Thread nD τ) none Set.univ (m := arg2) (r := r0) (Mk := Finset.univ) (access_sub arg2 r0)) $$ HY; iintro HY
  iapply (wp_load 𝒱₀ (c : Thread nD τ) none Set.univ (m := arg2) (View.setOn_subset_set _ _)) $$ HY; iintro HY
  iapply (wp_store 𝒱₀ (c : Thread nD τ) none Set.univ (m := arg2) (r := r1) (Mk := Finset.univ) (access_sub arg2 r1)) $$ HY; iintro HY
  iapply (ret_intro c); iapply Hk
  isplitl [HO]; · iexact HO
  isplitl [HX]; · iexact HX
  isplitl [HY]
  · iexists _
    isplitr; · ipureintro; exact out_read arg2 g _ _
    iexact HY
  isplitl [Hv]; · iexact Hv
  isplitl [Hw]; · iexact Hw
  isplitl [Hc]; · iexact Hc
  iexact Hz

end Cert.ArgmaxProof

end
-- ==== Proof.Points.lean ====
/-
What a device holds between the grid points, and the body at every point.
-/
module

public import proofs.«01_k».proof.Proof.Last
public import proofs.«01_k».proof.Proof.Gen.KernelIdeal.Points

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Between the points -/

/-- The duties of the signals. -/
def barToks : sProp 𝕄 := bigSep Finset.univ fun j => dutyTok ER (barCell (sh j c)) 0 (inv j)

/-- Before the first point: nothing signalled, the buffers with anything in them. -/
def phiFirst : sProp 𝕄 :=
  iprop((∃ K, records m K ∗ barToks (F := F) c ∗ Kept m c) ∗ (∃ v, accP (F := F) c v) ∗ (∃ w, idxP (F := F) c w) ∗ ∃ f, commP (F := F) c f)
/-- After point `n`, not the last: the running maximum over the points so far; of the exchange buffer, slot 0. -/
def phiMid (n : ℕ) : sProp 𝕄 :=
  iprop((∃ K, records m K ∗ Kept m c) ∗ accP c (accV m c n) ∗ idxP c (accI m c n) ∗ ∃ f, slotPts (F := F) c 0 fullShare f)
/-- After the last: the buffers, and every semaphore of the exchange at zero. -/
def phiLast : sProp 𝕄 :=
  iprop((∃ v, accP (F := F) c v) ∗ (∃ w, idxP (F := F) c w) ∗ (∃ f, commP (F := F) c f) ∗ bigSep Finset.univ (fun k : CI => semVal (kcell (c, k)) 0))

def phiAt : ℕ → sProp 𝕄
  | 0 => phiFirst m c
  | 1 => phiMid m c 0
  | 2 => phiMid m c 1
  | 3 => phiMid m c 2
  | _ => phiLast c
def owedAt : ℕ → CellTallies nD τ sig Unit
  | 0 => owedB c 0
  | 1 => owedR c 0
  | 2 => owedR c 0
  | 3 => owedR c 0
  | _ => 0

/-- The state the run starts in. -/
def s₀ : MemSt nD τ sig (Elt F) := ⟨m, fun _ => 0, ρ⟩

/-- What the pipeline's windows hold, and what the device holds, at every point. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c t
    | ⟨1, _⟩ => outAt m c
  Φ t := phiAt m c t.val
  q _ := fullShare
  owed t := owedAt c t.val

theorem before0 (t : Fin cfg0.N) (d) : (dats m ρ 0 c).before (0 : Fin 2) t d = xblk m c t := by
  unfold Dat.before; rw [if_pos (fetch0_0 t)]; rfl

theorem owes_in (t : Fin (cfg0.N + 1)) : (dats m ρ 0 c).owesAt () t ⊢ (iprop(∃ W, owes (c : Thread nD τ) (owedAt c t.val) W) : sProp 𝕄) := by
  unfold Dat.owesAt Pipeline.owesWithin
  iintro ⟨%W, -, HO⟩
  iexists W; iexact HO
theorem owes_out (t : Fin (cfg0.N + 1)) : (iprop(∃ W, owes (c : Thread nD τ) (owedAt c t.val) W) : sProp 𝕄) ⊢ (dats m ρ 0 c).owesAt () t := by
  unfold Dat.owesAt Pipeline.owesWithin
  iintro ⟨%W, HO⟩
  iexists W
  isplitr; · ipureintro; exact fun _ _ => Or.inl trivial
  iexact HO

/-! ## The points -/

theorem sigTok_intro (j : Fin 15) (f : Vec F S16x2x1024 .f32) :
    (iprop(dutyTok ER (barCell (sh j c)) 0 (inv j) ∗ slotPts c (invE j).succ fullShare f) : sProp 𝕄) ⊢ sigTok (F := F) c j := by
  unfold sigTok
  iintro ⟨H1, H2⟩
  isplitl [H1]; · iexact H1
  iexists f; iexact H2

/-- The exchange buffer taken apart: slot 0, and the slots the signals hand over. -/
theorem comm_split (f : Vec F S16x2x1024 .f32) :
    (iprop(barToks (F := F) c ∗ commP c f) : sProp 𝕄) ⊢ iprop(slotPts c 0 fullShare f ∗ bigSep Finset.univ (sigTok (F := F) c)) := by
  unfold commP barToks
  rw [comm_slots, bigSep_univ_succ (fun s : Fin 16 => slotPts c s fullShare f), bigSep_univ_equiv invE (fun j : Fin 15 => slotPts c j.succ fullShare f)]
  iintro ⟨Ht, H0, Hs⟩
  isplitl [H0]; · iexact H0
  have h : (iprop(bigSep Finset.univ (fun j => dutyTok ER (barCell (sh j c)) 0 (inv j)) ∗ bigSep Finset.univ (fun j : Fin 15 => slotPts c (invE j).succ fullShare f)) : sProp 𝕄)
      ⊢ bigSep Finset.univ (sigTok (F := F) c) := by
    rw [← bigSep_sep']
    exact bigSep_mono fun j _ => sigTok_intro c j f
  iapply h
  isplitl [Ht]; · iexact Ht
  iexact Hs

theorem point_first :
    iprop(phiFirst m c ∗ (dats m ρ 0 c).owesAt () (tN 0).castSucc
        ∗ (∃ d, owns (c : Thread nD τ) (st0_0 (tN 0)) fullShare ((dats m ρ 0 c).before (0 : Fin 2) (tN 0) d))
        ∗ (∃ d, owns (c : Thread nD τ) (st0_1 (tN 0)) fullShare ((dats m ρ 0 c).before (1 : Fin 2) (tN 0) d)))
      ⊢ WP c (bodyAt0 (tN 0)) (fun _ => iprop(phiMid m c 0 ∗ (dats m ρ 0 c).owesAt () (tN 0).succ
        ∗ owns (c : Thread nD τ) (st0_0 (tN 0)) fullShare (xblk m c (tN 0))
        ∗ (∃ d, owns (c : Thread nD τ) (st0_1 (tN 0)) fullShare ((dats m ρ 0 c).before (1 : Fin 2) (tN 0) d)))) := by
  unfold phiFirst
  iintro ⟨⟨⟨%K, #HR, Hb, Hk⟩, Hv, Hw, ⟨%f, Hc⟩⟩, HO, ⟨%d, HX⟩, HY⟩
  ihave HO := (owes_in m ρ c _) $$ HO
  ihave HX := (Entails.of_eq (congrArg (owns (c : Thread nD τ) (st0_0 (tN 0)) fullShare) (before0 m ρ c (tN 0) d))) $$ HX
  ihave Hs := (comm_split c f) $$ [Hb Hc]
  · isplitl [Hb]; · iexact Hb
    iexact Hc
  icases Hs with ⟨H0, Hs⟩
  iapply (body_first m K c (grid0.coords (tN 0)) (win0_0.stage (cfg0.slots (tN 0) 0)) (hstage0_0 ((cfg0.slots (tN 0) 0).cast nbuf0_0))
    (win0_1.stage (cfg0.slots (tN 0) 1)) (hstage0_1 ((cfg0.slots (tN 0) 1).cast nbuf0_1)) (by decide) (by decide) (by decide) (by decide) (xblk m c (tN 0))) $$ HR [HO HX Hv Hw Hs]
  · isplitl [HO Hs]
    · unfold SigSt
      rw [bigSep_finFrom_zero]
      isplitl [HO]; · iexact HO
      iexact Hs
    isplitl [HX]; · iexact HX
    isplitl [Hv]; · iexact Hv
    iexact Hw
  iintro ⟨H, HX, Hv, Hw⟩
  unfold SigSt
  rw [owedB_end, bigSep_finFrom_self]
  icases H with ⟨HO, -⟩
  unfold phiMid
  isplitl [Hk Hv Hw H0]
  · isplitl [Hk]
    · iexists K
      isplitr; · iexact HR
      iexact Hk
    isplitl [Hv]; · iexact Hv
    isplitl [Hw]; · iexact Hw
    iexists f; iexact H0
  isplitl [HO]; · iapply (owes_out m ρ c _); iexact HO
  isplitl [HX]; · iexact HX
  iexact HY

theorem point_mid (n : ℕ) (t : Fin cfg0.N) (ht : t = tN (n + 1)) (ho : owedAt c t.val = owedR c 0) (ho' : owedAt c (t.val + 1) = owedR c 0)
    (h1 : ¬ k0_cond1 (grid0.coords t) = 1#1) (h2 : ¬ first (grid0.coords t) = 1#1) (h3 : later (grid0.coords t) = 1#1) (h4 : ¬ k0_cond4 (grid0.coords t) = 1#1) :
    iprop(phiMid m c n ∗ (dats m ρ 0 c).owesAt () t.castSucc
        ∗ (∃ d, owns (c : Thread nD τ) (st0_0 t) fullShare ((dats m ρ 0 c).before (0 : Fin 2) t d))
        ∗ (∃ d, owns (c : Thread nD τ) (st0_1 t) fullShare ((dats m ρ 0 c).before (1 : Fin 2) t d)))
      ⊢ WP c (bodyAt0 t) (fun _ => iprop(phiMid m c (n + 1) ∗ (dats m ρ 0 c).owesAt () t.succ
        ∗ owns (c : Thread nD τ) (st0_0 t) fullShare (xblk m c t)
        ∗ (∃ d, owns (c : Thread nD τ) (st0_1 t) fullShare ((dats m ρ 0 c).before (1 : Fin 2) t d)))) := by
  subst ht
  unfold phiMid
  iintro ⟨⟨HK, Hv, Hw, Hs⟩, HO, ⟨%d, HX⟩, HY⟩
  ihave HO := (owes_in m ρ c _) $$ HO
  ihave HX := (Entails.of_eq (congrArg (owns (c : Thread nD τ) (st0_0 (tN (n + 1))) fullShare) (before0 m ρ c (tN (n + 1)) d))) $$ HX
  iapply (body_mid c (grid0.coords (tN (n + 1))) (win0_0.stage (cfg0.slots (tN (n + 1)) 0)) (hstage0_0 ((cfg0.slots (tN (n + 1)) 0).cast nbuf0_0))
    (win0_1.stage (cfg0.slots (tN (n + 1)) 1)) (hstage0_1 ((cfg0.slots (tN (n + 1)) 1).cast nbuf0_1)) h1 h2 h3 h4 (xblk m c (tN (n + 1))) (accV m c n) (accI m c n)) $$ [HX Hv Hw]
  · isplitl [HX]; · iexact HX
    isplitl [Hv]; · iexact Hv
    iexact Hw
  iintro ⟨HX, Hv, Hw⟩
  isplitl [HK Hv Hw Hs]
  · isplitl [HK]; · iexact HK
    isplitl [Hv]; · iexact Hv
    isplitl [Hw]; · iexact Hw
    iexact Hs
  isplitl [HO]
  · iapply (owes_out m ρ c _)
    iapply (Entails.of_eq (congrArg (fun O => (iprop(∃ W, owes (c : Thread nD τ) O W) : sProp 𝕄)) (ho.trans ho'.symm)))
    iexact HO
  isplitl [HX]; · iexact HX
  iexact HY

theorem point_last :
    iprop(phiMid m c 2 ∗ (dats m ρ 0 c).owesAt () (tN 3).castSucc
        ∗ (∃ d, owns (c : Thread nD τ) (st0_0 (tN 3)) fullShare ((dats m ρ 0 c).before (0 : Fin 2) (tN 3) d))
        ∗ (∃ d, owns (c : Thread nD τ) (st0_1 (tN 3)) fullShare ((dats m ρ 0 c).before (1 : Fin 2) (tN 3) d)))
      ⊢ WP c (bodyAt0 (tN 3)) (fun _ => iprop(phiLast (F := F) c ∗ (dats m ρ 0 c).owesAt () (tN 3).succ
        ∗ owns (c : Thread nD τ) (st0_0 (tN 3)) fullShare (xblk m c (tN 3))
        ∗ owns (c : Thread nD τ) (st0_1 (tN 3)) fullShare (outAt m c))) := by
  unfold phiMid
  iintro ⟨⟨⟨%K, #HR, Hk⟩, Hv, Hw, Hs⟩, HO, ⟨%d, HX⟩, ⟨%e, HY⟩⟩
  ihave HO := (owes_in m ρ c _) $$ HO
  ihave HX := (Entails.of_eq (congrArg (owns (c : Thread nD τ) (st0_0 (tN 3)) fullShare) (before0 m ρ c (tN 3) d))) $$ HX
  iapply (body_last m K c (win0_0.stage (cfg0.slots (tN 3) 0)) (hstage0_0 ((cfg0.slots (tN 3) 0).cast nbuf0_0))
    (win0_1.stage (cfg0.slots (tN 3) 1)) (hstage0_1 ((cfg0.slots (tN 3) 1).cast nbuf0_1)) (by decide) (by decide) (by decide) (by decide)) $$ HR [Hk HO HX HY Hv Hw Hs]
  · isplitl [Hk]; · iexact Hk
    isplitl [HO]; · iexact HO
    isplitl [HX]; · iexact HX
    isplitl [HY]; · iexists _; iexact HY
    isplitl [Hv]; · iexact Hv
    isplitl [Hw]; · iexact Hw
    iexact Hs
  iintro ⟨HO, HX, HY, Hv, Hw, Hc, Hz⟩
  unfold phiLast
  isplitl [Hv Hw Hc Hz]
  · isplitl [Hv]; · iexists _; iexact Hv
    isplitl [Hw]; · iexists _; iexact Hw
    isplitl [Hc]; · iexists _; iexact Hc
    iexact Hz
  isplitl [HO]; · iapply (owes_out m ρ c _); iexact HO
  isplitl [HX]; · iexact HX
  iexact HY

/-- The library's body obligation on core `c`. -/
theorem body_obligation : BodyObligation (dats (F := F) m ρ 0 c) (defs₀ (F := F)) 𝒱₀ () Set.univ := fun t => by
  rw [bigSep_W0, bigSep_W0]
  rcases fin_N0 t with rfl | rfl | rfl | rfl
  · exact point_first m ρ c
  · exact point_mid m ρ c 0 t0_1 rfl rfl rfl (by decide) (by decide) (by decide) (by decide)
  · exact point_mid m ρ c 1 t0_2 rfl rfl rfl (by decide) (by decide) (by decide) (by decide)
  · exact point_last m ρ c

end Cert.ArgmaxProof

end
-- ==== Proof.Launch.lean ====
/-
The launch: the semaphores' invariants, the duties dealt out, the run of the whole mesh.
-/
module

public import proofs.«01_k».proof.Proof.Points
public import proofs.«01_k».proof.Proof.Gen.KernelIdeal.Launch
public import Idealize.ShloMosaic.Lib.Pipeline.CollectiveSegs

@[expose] public section

noncomputable section

namespace Cert.ArgmaxProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by
  unfold Dat.share; split <;> rfl

/-! ## The cells and the duties -/

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_inj h2]
/-- The cells of the exchange: every device's barrier, its send and its receive semaphores. -/
def ringCells : Finset (GSem nD τ sig) := Finset.univ.map ⟨kcell, kcell_injective⟩

/-- The duties of a device's own cells: fifteen at the barrier, one at every send and every receive semaphore. -/
abbrev tokOf (cj : Dev nD × (Fin 15 ⊕ OI)) : GSem nD τ sig × ℕ × Fin 15 :=
  (kcell (cj.1, cj.2.elim (fun _ => .inl ()) .inr), 0, cj.2.elim id fun _ => 0)
theorem tokOf_injective : Function.Injective tokOf := by
  rintro ⟨c, k⟩ ⟨c', k'⟩ h
  have h1 := kcell_injective (congrArg Prod.fst h)
  have h2 : c = c' := congrArg Prod.fst h1
  have h3 := congrArg Prod.snd h1
  have h4 := congrArg (fun x : GSem nD τ sig × ℕ × Fin 15 => x.2.2) h
  subst h2
  rcases k with d | k <;> rcases k' with d' | k'
  · have h5 : d = d' := h4
    rw [h5]
  · exact absurd h3 (fun h => by cases h)
  · exact absurd h3 (fun h => by cases h)
  · have h5 : k = k' := Sum.inr.inj h3
    rw [h5]
def ringToks : Finset (GSem nD τ sig × ℕ × Fin 15) := Finset.univ.map ⟨tokOf, tokOf_injective⟩

/-- What the pipeline and the exchange start from. -/
def u₀ : UU := (initOf (Pipeline.cells cfgs cellOf_inj) (Pipeline.launchToks cfgs cellOf_inj), initOf ringCells ringToks)

/-- The duties of device `c`'s own cells. -/
def toks (c : Dev nD) : sProp 𝕄 :=
  iprop(bigSep Finset.univ (fun d : Fin 15 => dutyTok ER (barCell c) 0 d)
    ∗ bigSep Finset.univ (fun j : Fin 15 => dutyTok ER (sendCell c j) 0 0) ∗ bigSep Finset.univ (fun j : Fin 15 => dutyTok ER (recvCell c j) 0 0))

/-- What device `c` is dealt at the start. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks (F := F) c)

theorem toks_split (Φ : Fin 15 ⊕ OI → sProp 𝕄) : bigSep Finset.univ Φ
    = iprop(bigSep Finset.univ (fun d => Φ (.inl d)) ∗ bigSep Finset.univ (fun j => Φ (.inr (.inl j))) ∗ bigSep Finset.univ (fun j => Φ (.inr (.inr j)))) := by
  rw [BI.bigSep_univ_sum, BI.bigSep_univ_sum]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [toks_split]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero: the barrier's, which outlives the kernel, and the kernel's own. -/
theorem sems0_eq (c : Dev nD) : (bigSep Finset.univ fun k : CI => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, BI.bigSep_univ_sum, BI.bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt around the mesh -/

/-- The duties device `c` pays: the signals to the other fifteen devices, its own sends, the receives of the devices it copies to. -/
def payToks (c : Dev nD) : sProp 𝕄 :=
  iprop(barToks (F := F) c
    ∗ bigSep Finset.univ (fun j : Fin 15 => dutyTok ER (sendCell c j) 0 0) ∗ bigSep Finset.univ (fun j : Fin 15 => dutyTok ER (recvCell (sh j c) j) 0 0))

/-- Every device moved by `j + 1` places as `j` is renamed by `e`: a permutation of the pairs. -/
def aroundE (e : Fin 15 ≃ Fin 15) : Dev nD × Fin 15 ≃ Dev nD × Fin 15 where
  toFun p := (sh p.2 p.1, e p.2)
  invFun p := (sh (inv (e.symm p.2)) p.1, e.symm p.2)
  left_inv p := by
    have h : sh (inv (e.symm (e p.2))) (sh p.2 p.1) = p.1 := by rw [e.symm_apply_apply]; exact inv_sh _ _
    exact Prod.ext h (e.symm_apply_apply _)
  right_inv p := Prod.ext (sh_inv _ _) (e.apply_symm_apply _)

theorem around (e : Fin 15 ≃ Fin 15) (Φ : Dev nD × Fin 15 → sProp 𝕄) :
    (bigSep Finset.univ fun c => bigSep Finset.univ fun j => Φ (c, j)) = bigSep Finset.univ fun c => bigSep Finset.univ fun j => Φ (sh j c, e j) := by
  rw [← bigSep_univ_prod Φ, bigSep_univ_equiv (aroundE e), bigSep_univ_prod]; rfl

theorem toks_around : (bigSep Finset.univ fun c : Dev nD => (toks c : sProp 𝕄)) = bigSep Finset.univ fun c : Dev nD => payToks c := by
  unfold toks payToks barToks
  simp only [bigSep_sep']
  rw [around invE (fun p => dutyTok ER (barCell p.1) 0 p.2), around (Equiv.refl _) (fun p => dutyTok ER (recvCell p.1 p.2) 0 0)]
  rfl

/-- What stays with device `c`: its places, and the duties it pays. -/
def linear (c : Dev nD) : sProp 𝕄 := iprop((bigSep Finset.univ fun k : CI => atPos ER (kcell (c, k)) 0 ∅ 0) ∗ payToks (F := F) c)
def G' (c : Dev nD) : sProp 𝕄 := iprop(∃ K, records m K ∗ linear (F := F) c)

theorem G'_intro (K : Dev nD × CI → ℕ) (c : Dev nD) : iprop(records m K ∗ linear (F := F) c) ⊢ G' m c := by
  unfold G'; iintro H; iexists K; iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htk⟩
  ihave HK := (BI.bigSep_exists_pi Finset.univ (fun (ck : Dev nD × CI) (κ : ℕ) => (cellInv ER (Rd m) κ (kcell ck) : sProp 𝕄))) $$ HI
  icases HK with ⟨%K, #HI⟩
  iapply (bigSep_with_persistent (R := records m K) fun c _ => G'_intro m K c)
  isplitr
  · unfold records
    iapply (Entails.of_eq (bigSep_sep' Finset.univ (fun ck : Dev nD × CI => (cellInv ER (Rd m) (K ck) (kcell ck) : sProp 𝕄)) (fun ck => reached ER (kcell ck) 0)).symm)
    isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- All devices' semaphores become the invariants, in one step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the devices start with -/

/-- What every device owes at the start. -/
abbrev O₀ (c : Dev nD) : CellTallies nD τ sig Unit := owedB c 0

theorem owed_at (d : Dev nD) (g : GSem nD τ sig) : O₀ d g () =
    (∑ j : Fin 15, if g = recvCell (sh j d) j then N else 0) + ∑ j : Fin 15, if g = barCell (sh j d) then 1 else 0 := by
  unfold O₀ owedB owedR
  rw [finFrom_zero, Pi.add_apply, Finsupp.add_apply, Finset.sum_apply, Finset.sum_apply, Finsupp.finsetSum_apply, Finsupp.finsetSum_apply]
  simp only [tallyAt_apply, and_true]

/-- Summed over the devices, of the fifteen devices that owe one cell. -/
theorem sum_shift (c : Dev nD) (j : Fin 15) (n : ℕ) : (∑ d : Dev nD, if c = sh j d then n else 0) = n := by
  rw [← Equiv.sum_comp (shE j).symm, Finset.sum_congr rfl fun d _ => by rw [show sh j ((shE j).symm d) = d from sh_inv j d],
    Finset.sum_ite_eq Finset.univ c fun _ => n, if_pos (Finset.mem_univ _)]

theorem bar_eq_iff {a b : Dev nD} : barCell a = barCell b ↔ a = b := ⟨fun h => congrArg (fun g : GSem nD τ sig => g.1.1) h, fun h => h ▸ rfl⟩
theorem recv_eq_iff {a b : Dev nD} {i j : Fin 15} : recvCell a i = recvCell b j ↔ a = b ∧ i = j :=
  ⟨fun h => by have := kcell_injective (a₁ := (a, .inr (.inr i))) (a₂ := (b, .inr (.inr j))) h; simpa using this, fun h => by rw [h.1, h.2]⟩
theorem bar_ne_recv {a b : Dev nD} {j : Fin 15} : barCell a ≠ recvCell b j := fun h => by
  have := congrArg Prod.snd h; cases this

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_at d _, Finset.sum_add_distrib]
  simp only [bar_ne_recv, if_false, Finset.sum_const_zero, bar_eq_iff, zero_add]
  rw [Finset.sum_comm, Finset.sum_congr rfl fun j _ => sum_shift c j 1]
  rfl

theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_at d _, Finset.sum_add_distrib]
  simp only [bar_ne_recv.symm, if_false, Finset.sum_const_zero, recv_eq_iff, add_zero]
  rw [Finset.sum_comm, Finset.sum_eq_single i (fun j _ h => Finset.sum_eq_zero fun d _ => if_neg fun e => h e.2.symm) (fun h => absurd (Finset.mem_univ _) h)]
  simp only [and_true]
  exact sum_shift c i N

theorem sep_drop_mid {P Q R : sProp 𝕄} : iprop(P ∗ Q ∗ R) ⊢ iprop(P ∗ R) := by
  iintro ⟨H1, -, H2⟩
  isplitl [H1]; · iexact H1
  iexact H2

theorem creds (c : Dev nD) :
    (Pipeline.launchCred O₀ c : sProp 𝕄) ⊢ iprop(cred (tallyAt (barCell c) () 15) ∗ bigSep Finset.univ fun j => cred (tallyAt (recvCell c j) () N)) := by
  unfold Pipeline.launchCred
  refine (BI.bigSep_subset (Finset.subset_univ (Finset.univ.map ⟨csem, csem_inj⟩))).trans ?_
  rw [bigSep_map, cells_split]
  have h1 := launch_bar c
  have h2 : ∀ j ∈ (Finset.univ : Finset (Fin 15)), (cred (tallyOn (recvCell c j) (launchCredit (Pipeline.owing O₀) 0 (recvCell c j))) : sProp 𝕄)
      = cred (tallyAt (recvCell c j) () N) := fun j _ => by rw [launch_recv c j]
  have h3 := bigSep_congr h2
  rw [← h1, ← h3]
  exact sep_drop_mid

/-! ## The side conditions -/

/-- What device `c` starts with besides its buffers. -/
def start (c : Dev nD) : sProp 𝕄 := iprop(∃ K, records m K ∗ barToks (F := F) c ∗ Kept m c)

theorem kept_intro (c : Dev nD) (K : Dev nD × CI → ℕ) :
    iprop(levAts L lv ∗ cred (tallyAt (barCell c) () 15) ∗ bigSep Finset.univ (fun j => cred (tallyAt (recvCell c j) () N)) ∗ linear (F := F) c)
      ⊢ iprop(barToks (F := F) c ∗ Kept m c) := by
  unfold linear payToks Kept
  rw [cells_split (F := F)]
  have hw : (iprop(bigSep Finset.univ (fun j => cred (tallyAt (recvCell c j) () N)) ∗ bigSep Finset.univ (fun j => atPos ER (recvCell c j) 0 ∅ 0)) : sProp 𝕄)
      ⊢ bigSep Finset.univ (waitTok m (recvFam m) c) := by
    rw [← bigSep_sep']
    exact BIBase.Entails.rfl
  iintro ⟨Hl, Hc, Hr, ⟨HaB, HaS, HaR⟩, HtB, HtS, HtR⟩
  isplitl [HtB]; · iexact HtB
  isplitl [Hl]; · iexact Hl
  isplitl [HaB]; · iexact HaB
  isplitl [Hc]; · iexact Hc
  isplitl [HtS]; · iexact HtS
  isplitl [HtR]; · iexact HtR
  isplitl [HaS]; · iexact HaS
  iapply hw
  isplitl [Hr]; · iexact Hr
  iexact HaR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  icases HG with ⟨%K, HR, HG⟩
  isplitl
  · iexists K
    isplitl [HR]; · iexact HR
    iapply (kept_intro m c K)
    isplitl [Hlev]; · iexact Hlev
    isplitl [H1]; · iexact H1
    isplitl [HN]; · iexact HN
    iexact HG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phiFirst m c from rfl, scopedRest0_eq]
  unfold phiFirst start accP idxP commP
  iintro ⟨Hs, -, H⟩
  isplitl [Hs]; · iexact Hs
  iexact H

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phiLast c from rfl, scopedRest0_eq]
  unfold phiLast accP idxP commP
  rw [sems0_eq]
  iintro ⟨H1, H2, H3, Hu, Ho⟩
  isplitl [Hu]; · iexact Hu
  isplitl [Ho]; · iexact Ho
  isplitl [H1]; · iexact H1
  isplitl [H2]; · iexact H2
  iexact H3

theorem owedAt_cases (c : Dev nD) : ∀ n, (∃ k, owedAt c n = owedB c k) ∨ (∃ k, owedAt c n = owedR c k) ∨ owedAt c n = 0
  | 0 => .inl ⟨0, rfl⟩
  | 1 => .inr (.inl ⟨0, rfl⟩)
  | 2 => .inr (.inl ⟨0, rfl⟩)
  | 3 => .inr (.inl ⟨0, rfl⟩)
  | _ + 4 => .inr (.inr rfl)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (owedAt_cases c t.val)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every fair execution of the sixteen devices ends, with every
device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.ArgmaxProof

end
-- ==== Proof.Ref.lean ====
/-
What the reference leaves in its result: a straight line of host operations, read off as one term of its argument.
-/
module

public import Idealize.ShloMosaic.Lib.StableHlo.Run
public import Idealize.ShloMosaic.Lib.Quiescent
public import proofs.«01_k».proof.Proof.Gen.ReferenceIdeal

@[expose] public section

noncomputable section

namespace Cert.ArgmaxProof.Ref

open Cert.ReferenceIdeal Cert.ReferenceIdeal.Gen
open Idealize.ShloMosaic Idealize.ShloMosaic.TcCoe Idealize.ShloMosaic.StableHlo Idealize.SL.Sem

variable {F : FTy → Type} [FloatOps F]

/-- The pairs (greatest, its first row) of the columns. -/
def pairs (x : FVec F S65536x1024 .f32) : S1024.Idx → F .f32 × BitVec 32 :=
  Host.argReduce (u := S_) reducer_argmax_f32_i32 x (iotaInDim S65536x1024 32 0) (constant S_ .f32 0xFF800000#32) (constantI S_ 32 0#32)
    reducesTo_S65536x1024_S1024_d0 h_S_

/-- The greatest of each column. -/
def greatest (x : FVec F S65536x1024 .f32) : FVec F S1024 .f32 :=
  Host.reduce (u := S_) FloatOps.maximumf x (constant S_ .f32 0xFF800000#32) reducesTo_S65536x1024_S1024_d0 h_S_

/-- The two rows of the result, one under the other. -/
def stack (v w : FVec F S1024 .f32) : FVec F S2x1024 .f32 :=
  concatenate S2x1024 0 [⟨S1x1024, broadcastInDim S1x1024 ![1] bcast_S1024_S1x1024_1 v⟩, ⟨S1x1024, broadcastInDim S1x1024 ![1] bcast_S1024_S1x1024_1 w⟩]
    concatenates_S1x1024_S1x1024_S2x1024_d0

/-- The reference's result of its argument. -/
def out (x : FVec F S65536x1024 .f32) : FVec F S2x1024 .f32 :=
  stack (greatest x) (sitofp .f32 fun j => (pairs x j).2)

abbrev ops : List (HloOp τ sig (Elt F)) :=
  [ nullary main_call0_v0 (iotaInDim S65536x1024 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S65536x1024_S1024_d0 h_S_ j).1),
    quaternary main_arg0 main_call0_v0 main_call0_cst main_call0_c main_v0
      (fun x y u v j => (Host.argReduce reducer_argmax_f32_i32 x y u v reducesTo_S65536x1024_S1024_d0 h_S_ j).2),
    unary main_v0 main_v1 (sitofp .f32),
    nullary main_cst (constant S_ .f32 0xFF800000#32),
    binary main_arg0 main_cst main_v2 (fun x v => Host.reduce FloatOps.maximumf x v reducesTo_S65536x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5 (fun a b => concatenate S2x1024 0 [⟨S1x1024, a⟩, ⟨S1x1024, b⟩] concatenates_S1x1024_S1x1024_S2x1024_d0) ]

/-- The program is that straight line of operations. -/
theorem main_eq (c : Dev nD) : main (F := F) c = seq ops := rfl

/-- After them the result's array holds `out` of the argument; -/
theorem out_eq (V : Valuation τ sig (Elt F)) : after ops V (main_v5 : DevRef τ sig) = out (V (main_arg0 : DevRef τ sig)) := by
  after_results
  rfl

/-- and the argument is as it was. -/
theorem arg_eq (V : Valuation τ sig (Elt F)) : after ops V (main_arg0 : DevRef τ sig) = V (main_arg0 : DevRef τ sig) := by
  after_results

theorem noScopedRefs : (Finset.univ.filter fun b : Ref sig .tc => b.isScoped) = ∅ := by decide
theorem noScopedSems : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- Every run of the reference ends with `out` of the argument in the result's array, the argument kept and no counter above zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = out (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v5).trans (out_eq _), (h c main_arg0).trans (arg_eq _)⟩,
      sem_eq_zero_of_no_sems (by decide) r.2⟩)
    (run_seq noScopedRefs noScopedSems defs main (fun _ => ops) main_eq (fun _ => ops_sub) m ρ)

end Cert.ArgmaxProof.Ref

end
-- ==== Proof.ArgMax.lean ====
/-
The first place where a column of numbers is greatest, over a range of rows.
-/
module

public import Idealize.ShloMosaic.PureOps.Ideal.Laws

@[expose] public section

namespace Cert.ArgmaxProof

/-- On the rows `a, …, b - 1` the greatest of `f` is `v`, and `r` is the first row that has it. -/
structure First (f : ℕ → EReal) (a b : ℕ) (v : EReal) (r : ℕ) : Prop where
  low : a ≤ r
  high : r < b
  at_row : f r = v
  le : ∀ i, a ≤ i → i < b → f i ≤ v
  lt : ∀ i, a ≤ i → i < r → f i < v

variable {f : ℕ → EReal} {a b c : ℕ} {v w : EReal} {r s : ℕ}

theorem First.value (h : First f a b v r) (h' : First f a b w s) : v = w :=
  le_antisymm (h.at_row ▸ h'.le r h.low h.high) (h'.at_row ▸ h.le s h'.low h'.high)
theorem First.row (h : First f a b v r) (h' : First f a b w s) : r = s := by
  have hv := h.value h'
  rcases lt_trichotomy r s with hl | he | hl
  · exact absurd (h.at_row.trans hv) (h'.lt r h.low hl).ne
  · exact he
  · exact absurd (h'.at_row.trans hv.symm) (h.lt s h'.low hl).ne

/-- One row. -/
theorem First.one (f : ℕ → EReal) (a : ℕ) : First f a (a + 1) (f a) a :=
  ⟨le_rfl, Nat.lt_succ_self a, rfl, fun i h1 h2 => by rw [show i = a by omega], fun i h1 h2 => by omega⟩

/-- The later rows have a greater one. -/
theorem First.later (h : First f a b v r) (h' : First f b c w s) (hlt : v < w) : First f a c w s :=
  ⟨by have := h.low; have := h.high; have := h'.low; omega, h'.high, h'.at_row,
    fun i h1 h2 => (lt_or_ge i b).elim (fun hi => (h.le i h1 hi).trans hlt.le) (fun hi => h'.le i hi h2),
    fun i h1 h2 => (lt_or_ge i b).elim (fun hi => (h.le i h1 hi).trans_lt hlt) (fun hi => h'.lt i hi h2)⟩

/-- The later rows have none greater. -/
theorem First.earlier (h : First f a b v r) (h' : First f b c w s) (hle : w ≤ v) : First f a c v r :=
  ⟨h.low, by have := h.high; have := h'.low; have := h'.high; omega, h.at_row,
    fun i h1 h2 => (lt_or_ge i b).elim (fun hi => h.le i h1 hi) (fun hi => (h'.le i hi h2).trans hle), h.lt⟩

/-- Every range with a row in it has a first greatest. -/
theorem First.exists (f : ℕ → EReal) (a n : ℕ) : ∃ v r, First f a (a + n + 1) v r := by
  induction n with
  | zero => exact ⟨_, _, First.one f a⟩
  | succ n ih =>
    obtain ⟨v, r, h⟩ := ih
    rcases lt_or_ge v (f (a + n + 1)) with hl | hl
    · exact ⟨_, _, h.later (First.one f _) hl⟩
    · exact ⟨_, _, h.earlier (First.one f _) hl⟩

/-- Rows counted from `d` on. -/
theorem First.shift {d : ℕ} (h : First (fun i => f (d + i)) a b v r) : First f (d + a) (d + b) v (d + r) :=
  ⟨Nat.add_le_add_left h.low d, Nat.add_lt_add_left h.high d, h.at_row,
    fun i h1 h2 => by have := h.le (i - d) (by omega) (by omega); rwa [show d + (i - d) = i by omega] at this,
    fun i h1 h2 => by have := h.lt (i - d) (by omega) (by omega); rwa [show d + (i - d) = i by omega] at this⟩

/-! ## A maximum and a minimum over finitely many -/

theorem fold_max_eq {k : ℕ} (g : Fin k → EReal) (v : EReal) (hle : ∀ i, g i ≤ v) (i₀ : Fin k) (h₀ : g i₀ = v) :
    (Finset.univ : Finset (Fin k)).fold max ⊥ g = v :=
  le_antisymm ((Finset.fold_max_le _).mpr ⟨bot_le, fun i _ => hle i⟩) ((Finset.le_fold_max _).mpr (.inr ⟨i₀, Finset.mem_univ _, h₀.ge⟩))

theorem fold_min_eq {k : ℕ} (g : Fin k → EReal) (v : EReal) (hle : ∀ i, v ≤ g i) (i₀ : Fin k) (h₀ : g i₀ = v) :
    (Finset.univ : Finset (Fin k)).fold min ⊤ g = v :=
  le_antisymm ((Finset.fold_min_le _).mpr (.inr ⟨i₀, Finset.mem_univ _, h₀.le⟩)) ((Finset.le_fold_min _).mpr ⟨le_top, fun i _ => hle i⟩)

end Cert.ArgmaxProof

end
-- ==== Proof.Block.lean ====
/-
What one step computes of the rows it reads, and what it makes of the running maximum and its row: each column by itself.
-/
module

public import Idealize.ShloMosaic.Lib.ValueIdxCore
public import Idealize.ShloMosaic.Lib.Pipeline.Value
public import Idealize.ShloMosaic.Lib.WordCmp
public import proofs.«01_k».proof.Proof.ArgMax
public import proofs.«01_k».proof.Proof.Gen.KernelIdeal.Skeleton

@[expose] public section

noncomputable section

namespace Cert.ArgmaxProof

open Cert.KernelIdeal Cert.KernelIdeal.Gen
open Idealize.ShloMosaic Idealize.ShloMosaic.ValueIdx

/-! ## Reductions down the columns -/

section Rows
variable {n p : ℕ}

/-- Dropping the row of an index leaves its column. -/
theorem drop_rows (h : (⟨2, ![n, p]⟩ : Shape).Reduces [0] ⟨1, ![p]⟩) (i : Fin n) (k : Fin p) : h.drop (ix2 i k) = ix1 k :=
  funext fun b => Fin.ext (by rw [h.drop_val, Fin.fin_one_eq_zero b]; rfl)

/-- Row `i` of column `k`. -/
theorem lift_rows (h : (⟨2, ![n, p]⟩ : Shape).Reduces [0] ⟨1, ![p]⟩) (k : Fin p) (i : Fin n) : h.lift (ix1 k) i = ix2 i k := by
  rw [← drop_rows h i k]; exact h.lift_drop (ix2 i k)

/-- The word of minus infinity, -/
theorem neg_inf : (FloatOps.ofBits (F := Ideal) .f32 0xFF800000#32 : EReal) = ⊥ := by
  simp [Ideal.ofBits, Ideal.ieee]
/-- and of plus infinity. -/
theorem pos_inf : (FloatOps.ofBits (F := Ideal) .f32 0x7F800000#32 : EReal) = ⊤ := by
  simp [Ideal.ofBits, Ideal.ieee]

/-- The greatest of column `k`. -/
theorem max_rows (x : FVec Ideal ⟨2, ![n, p]⟩ .f32) (h : (⟨2, ![n, p]⟩ : Shape).Reduces [0] ⟨1, ![p]⟩) (hφ : FKind.Formats .f32)
    (hacc : (0xFF800000#32 : BitVec 32) = FKind.maximumf.neutral .f32 hφ) (k : Fin p) :
    multiReduction .maximumf [0] ⟨1, ![p]⟩ x 0xFF800000#32 h hφ hacc (ix1 k)
      = (Finset.univ : Finset (Fin n)).fold max ⊥ (fun i => x (ix2 i k)) := by
  rw [Ideal.multiReduction_maximumf_single, neg_inf]
  exact congrArg (Finset.univ.fold max ⊥) (funext fun i => congrArg x (lift_rows h k i))

/-- The least of column `k`. -/
theorem min_rows (x : FVec Ideal ⟨2, ![n, p]⟩ .f32) (h : (⟨2, ![n, p]⟩ : Shape).Reduces [0] ⟨1, ![p]⟩) (hφ : FKind.Formats .f32)
    (hacc : (0x7F800000#32 : BitVec 32) = FKind.minimumf.neutral .f32 hφ) (k : Fin p) :
    multiReduction .minimumf [0] ⟨1, ![p]⟩ x 0x7F800000#32 h hφ hacc (ix1 k)
      = (Finset.univ : Finset (Fin n)).fold min ⊤ (fun i => x (ix2 i k)) := by
  rw [multiReduction_minimumf_eq_fold, pos_inf]
  refine (h.fold_filter_drop_single _ _ x _).trans ?_
  exact congrArg (Finset.univ.fold min ⊤) (funext fun i => congrArg x (lift_rows h k i))

/-- The first row at which column `k` is greatest. -/
theorem index_rows (x : (⟨2, ![n, p]⟩ : Shape).Idx → EReal) (h : (⟨2, ![n, p]⟩ : Shape).Reduces [0] ⟨1, ![p]⟩) (k : Fin p)
    {g : ℕ → EReal} (hg : ∀ i : Fin n, x (ix2 i k) = g i) {v : EReal} {r : ℕ} (hf : First g 0 n v r) :
    Ideal.reduceIndex .argMax 0 h x (ix1 k) = BitVec.ofNat 32 r := by
  have fiber (i : (⟨2, ![n, p]⟩ : Shape).Idx) : h.drop i = ix1 k ↔ i = ix2 (i 0) k := by
    constructor
    · intro e
      have := congrArg (fun j => h.lift j (i 0)) e
      simp only [h.lift_drop] at this
      rw [this]; exact (lift_rows h k (i 0)).trans (by rw [lift_rows h k (i 0)]; rfl)
    · intro e
      rw [e]; exact drop_rows h (i 0) k
  have val (i : (⟨2, ![n, p]⟩ : Shape).Idx) (hi : h.drop i = ix1 k) : x i = g (i 0).val := by
    rw [(fiber i).1 hi]; exact hg (i 0)
  have at_r : h.drop (ix2 (⟨r, hf.high⟩ : Fin n) k) = ix1 k := (fiber _).2 rfl
  unfold Ideal.reduceIndex
  simp only [if_true]
  refine congrArg (fun o : Option ℕ => BitVec.ofNat 32 (o.getD 0)) (a₂ := some r) ?_
  refine le_antisymm (α := WithTop ℕ) (Finset.min_le ?_) (Finset.le_min fun b hb => ?_)
  · refine Finset.mem_image.2 ⟨ix2 ⟨r, hf.high⟩ k, ?_, rfl⟩
    simp only [Finset.mem_filter, Finset.mem_univ, true_and]
    refine ⟨at_r, fun i hi => not_lt.2 ?_⟩
    rw [val i hi, hg, hf.at_row]
    exact hf.le _ (Nat.zero_le _) (i 0).isLt
  · obtain ⟨i, hi, rfl⟩ := Finset.mem_image.1 hb
    simp only [Finset.mem_filter, Finset.mem_univ, true_and] at hi
    refine WithTop.coe_le_coe.2 (not_lt.1 fun hl => hi.2 _ at_r ?_)
    rw [val i hi.1, hg, hf.at_row]
    exact hf.lt _ (Nat.zero_le _) hl

end Rows

/-! ## One step -/

section Casts
variable {α : Type}

/-- A row of 1024 numbers laid out as one row of a table, -/
theorem up (x : S1024.Idx → α) (h : S1024.ShapeCasts S1x1024) (k : Fin 1024) : shapeCast S1x1024 x h (ix2 0 k) = x (ix1 k) :=
  shapeCast_apply x h _ _ (by rw [Shape.rowMajor_val_one, Shape.rowMajor_val_two]; simp)
/-- and back. -/
theorem down (x : S1x1024.Idx → α) (h : S1x1024.ShapeCasts S1024) (k : Fin 1024) : shapeCast S1024 x h (ix1 k) = x (ix2 0 k) :=
  shapeCast_apply x h _ _ (by rw [Shape.rowMajor_val_one, Shape.rowMajor_val_two]; simp)

end Casts

variable {x : FVec Ideal S1024x1024 .f32} {k : Fin 1024} {g : ℕ → EReal} {v : EReal} {r : ℕ}

/-- The rows are used as they are read. -/
theorem step_rows (x : FVec Ideal S1024x1024 .f32) : k0_pay1 (F := Ideal) x = x := shapeCast_self x _

/-- The greatest of the column among the step's rows. -/
theorem step_max (hg : ∀ i : Fin 1024, x (ix2 i k) = g i) (hf : First g 0 1024 v r) : k0_pay2 (F := Ideal) x (ix1 k) = v := by
  refine (max_rows (k0_pay1 (F := Ideal) x) reduces_S1024x1024_S1024 (.inl rfl) rfl k).trans ?_
  rw [step_rows]
  exact fold_max_eq _ v (fun i => (hg i).trans_le (hf.le _ (Nat.zero_le _) i.isLt)) ⟨r, hf.high⟩ ((hg _).trans hf.at_row)

/-- Its row, counted from the device's first. -/
theorem step_row (hg : ∀ i : Fin 1024, x (ix2 i k) = g i) (hf : First g 0 1024 v r) (i : grid0.Coords) :
    k0_pay3 (F := Ideal) i x (ix1 k) = BitVec.ofNat 32 (1024 * (i 0).val + r) := by
  have e : Ideal.reduceIndex .argMax 0 reduces_S1024x1024_S1024 (k0_pay1 (F := Ideal) x) (ix1 k) = BitVec.ofNat 32 r := by
    rw [step_rows]; exact index_rows x _ k hg hf
  refine (congrArg (· + BitVec.ofNat 32 (i 0).val * BitVec.ofNat 32 1024) e).trans ?_
  rw [← BitVec.ofNat_mul]
  exact (BitVec.ofNat_add r ((i 0).val * 1024)).symm.trans (congrArg _ (by omega))

/-- Whether the step's greatest is above the greatest before. -/
theorem step_above (hg : ∀ i : Fin 1024, x (ix2 i k) = g i) (hf : First g 0 1024 v r) (w : FVec Ideal S1x1024 .f32) :
    k0_pay6 (F := Ideal) x w (ix1 k) = BitVec.ofBool (decide (w (ix2 0 k) < v)) := by
  refine (cmpf_apply .ogt (k0_pay2 (F := Ideal) x) (shapeCast S1024 w shapeCasts_S1x1024_S1024) (ix1 k)).trans ?_
  rw [step_max hg hf, down, Ideal.cmpf_def]; rfl

/-! ## The running maximum and its row -/

/-- After the first step: the greatest of the step's rows, -/
theorem first_max (hg : ∀ i : Fin 1024, x (ix2 i k) = g i) (hf : First g 0 1024 v r) : k0_pay4 (F := Ideal) x (ix2 0 k) = v :=
  (up (k0_pay2 (F := Ideal) x) shapeCasts_S1024_S1x1024 k).trans (step_max hg hf)
/-- and its row. -/
theorem first_row (hg : ∀ i : Fin 1024, x (ix2 i k) = g i) (hf : First g 0 1024 v r) (i : grid0.Coords) :
    k0_pay5 (F := Ideal) i x (ix2 0 k) = BitVec.ofNat 32 (1024 * (i 0).val + r) :=
  (up (k0_pay3 (F := Ideal) i x) shapeCasts_S1024_S1x1024 k).trans (step_row hg hf i)

/-- After a later step: the step's greatest if it is above the one before, else the one before; -/
theorem next_max (hg : ∀ i : Fin 1024, x (ix2 i k) = g i) (hf : First g 0 1024 v r) (w : FVec Ideal S1x1024 .f32) :
    k0_pay7 (F := Ideal) x w w (ix2 0 k) = if w (ix2 0 k) < v then v else w (ix2 0 k) := by
  refine (up (select (k0_pay6 (F := Ideal) x w) (k0_pay2 (F := Ideal) x) (shapeCast S1024 w shapeCasts_S1x1024_S1024))
    shapeCasts_S1024_S1x1024 k).trans ?_
  rw [select_apply, step_above hg hf, WordCmp.select_decide, step_max hg hf, down]
/-- and the row likewise. -/
theorem next_row (hg : ∀ i : Fin 1024, x (ix2 i k) = g i) (hf : First g 0 1024 v r) (i : grid0.Coords) (w : FVec Ideal S1x1024 .f32)
    (u : IVec S1x1024 32) :
    k0_pay8 (F := Ideal) i x w u (ix2 0 k) = if w (ix2 0 k) < v then BitVec.ofNat 32 (1024 * (i 0).val + r) else u (ix2 0 k) := by
  refine (up (select (k0_pay6 (F := Ideal) x w) (k0_pay3 (F := Ideal) i x) (shapeCast S1024 u shapeCasts_S1x1024_S1024))
    shapeCasts_S1024_S1x1024 k).trans ?_
  rw [select_apply, step_above hg hf, WordCmp.select_decide, step_row hg hf, down]

end Cert.ArgmaxProof

end
-- ==== Proof.Device.lean ====
/-
What one device's four steps leave: the greatest of its 4096 rows and the first row that has it, each column by itself.
-/
module

public import Idealize.ShloMosaic.Lib.Pipeline.ValueKit
public import proofs.«01_k».proof.Proof.Block
public import proofs.«01_k».proof.Proof.Protocol

@[expose] public section

noncomputable section

namespace Cert.ArgmaxProof

open Cert.KernelIdeal Cert.KernelIdeal.Gen
open Idealize.ShloMosaic hiding ix0 ix1 ix2 ix3
open Idealize.ShloMosaic.TcCoe Idealize.ShloMosaic.ValueIdx

variable (m : (ℓ : Loc nD τ sig) → Buf (Elt Ideal) ℓ) (c : Dev nD)

/-- Step `n` is the point `n` of the grid. -/
theorem step_coord (n : ℕ) (hn : n < 4) : ((grid0.coords (tN n)) 0).val = n := by
  obtain rfl | rfl | rfl | rfl : n = 0 ∨ n = 1 ∨ n = 2 ∨ n = 3 := by omega
  all_goals decide +kernel

/-- Its block of the argument is the point's number down, and nothing across. -/
theorem index_in : ∀ t : Fin cfg0.N, win0_0.index t = ![((grid0.coords t) 0).val, 0] :=
  (by decide +kernel : ∀ t : Fin grid0.N, win0_0.index t = ![((grid0.coords t) 0).val, 0])

/-- Step `n` reads rows `1024 n, …` of the device's own. -/
theorem xblk_apply (n : ℕ) (hn : n < 4) (i k : Fin 1024) :
    xblk m c (tN n) (ix2 i k) = m ((c : Thread nD τ).loc main_arg0) (ix2 ⟨1024 * n + i.val, by omega⟩ k) := by
  have h := step_coord n hn
  refine congrArg (m ((c : Thread nD τ).loc main_arg0)) (funext fun a => Fin.ext ?_)
  match a with
  | ⟨0, _⟩ =>
    show (((win0_0.blk (tN n)).view.emb (ix2 i k) 0 : Fin _) : ℕ) = 1024 * n + i.val
    blk_simp [index_in]
    show ((grid0.coords (tN n)) 0).val * 1024 + i.val = 1024 * n + i.val
    rw [h]; omega
  | ⟨1, _⟩ =>
    show (((win0_0.blk (tN n)).view.emb (ix2 i k) 1 : Fin _) : ℕ) = k.val
    blk_simp [index_in]; rfl

variable {m c} {k : Fin 1024} {f : ℕ → EReal}

/-- After steps `0, …, n` the running maximum is the greatest of the rows so far, and its row the first that has it. -/
theorem acc_first (hf : ∀ (n : ℕ) (hn : n < 4) (i : Fin 1024), xblk m c (tN n) (ix2 i k) = f (1024 * n + i.val)) (n : ℕ) (hn : n < 4) :
    ∃ v r, First f 0 (1024 * (n + 1)) v r ∧ accV m c n (ix2 0 k) = v ∧ accI m c n (ix2 0 k) = BitVec.ofNat 32 r := by
  have block (n : ℕ) : ∃ v r, First (fun i => f (1024 * n + i)) 0 1024 v r := First.exists _ 0 1023
  induction n with
  | zero =>
    obtain ⟨v', r', h'⟩ := block 0
    have hs := h'.shift
    refine ⟨v', r', ?_, first_max (hf 0 hn) h', ?_⟩
    · simpa using hs
    · refine (first_row (hf 0 hn) h' _).trans ?_
      rw [step_coord 0 hn]; simp
  | succ n ih =>
    obtain ⟨v', r', h'⟩ := block (n + 1)
    have hs := h'.shift
    obtain ⟨v, r, h, hv, hr⟩ := ih (by omega)
    have e1 : accV m c (n + 1) (ix2 0 k) = if v < v' then v' else v := (next_max (hf (n + 1) hn) h' _).trans (by rw [hv])
    have e2 : accI m c (n + 1) (ix2 0 k) = if v < v' then BitVec.ofNat 32 (1024 * (n + 1) + r') else BitVec.ofNat 32 r :=
      (next_row (hf (n + 1) hn) h' _ _ _).trans (by rw [hv, hr, step_coord (n + 1) hn])
    rcases lt_or_ge v v' with hl | hl
    · exact ⟨_, _, h.later hs hl, e1.trans (if_pos hl), e2.trans (if_pos hl)⟩
    · exact ⟨_, _, h.earlier hs hl, e1.trans (if_neg hl.not_gt), e2.trans (if_neg hl.not_gt)⟩

end Cert.ArgmaxProof

end
-- ==== Proof.Pairs.lean ====
/-
What a device sends of its maximum and row, and what it makes of sixteen pairs received: each column by itself.
-/
module

public import proofs.«01_k».proof.Proof.Device

@[expose] public section

noncomputable section

namespace Cert.ArgmaxProof

open Cert.KernelIdeal Cert.KernelIdeal.Gen
open Idealize.ShloMosaic hiding ix0 ix1 ix2 ix3
open Idealize.ShloMosaic.TcCoe Idealize.ShloMosaic.ValueIdx

/-! ## What a device sends -/

/-- A row of 1024 numbers laid out as a table of one row in one layer. -/
theorem up₃ {α : Type} (x : S1024.Idx → α) (h : S1024.ShapeCasts S1x1x1024) (k : Fin 1024) :
    shapeCast S1x1x1024 x h (ix3 0 0 k) = x (ix1 k) :=
  shapeCast_apply x h _ _ (by rw [Shape.rowMajor_val_one, Shape.rowMajor_val_three]; simp)

/-- The kernel reads its own place on the mesh. -/
theorem dword_eq : ∀ c : Dev nD, dword c = BitVec.ofNat 32 c.val := by decide +kernel

/-- A row number below 65536, as a real number. -/
theorem row_real (n : ℕ) (hn : n < 65536) : FloatOps.sitofp (F := Ideal) .f32 (BitVec.ofNat 32 n) = (((n : ℝ) : EReal) : Ideal .f32) := by
  have h : (BitVec.ofNat 32 n).toInt = (n : ℤ) := by
    rw [BitVec.toInt_eq_toNat_of_lt] <;> rw [BitVec.toNat_ofNat, Nat.mod_eq_of_lt] <;> omega
  show (((BitVec.ofNat 32 n).toInt : ℝ) : EReal) = _
  rw [h, Int.cast_natCast]

/-- The maximum is sent as it is, -/
theorem sent_max (w : FVec Ideal S1x1024 .f32) (k : Fin 1024) : k0_pay13 (F := Ideal) w (ix3 0 0 k) = w (ix2 0 k) :=
  (up₃ (shapeCast S1024 w shapeCasts_S1x1024_S1024) shapeCasts_S1024_S1x1x1024 k).trans (down w _ k)

/-- and its row as the number of the row in the whole array. -/
theorem sent_row (c : Dev nD) (u : IVec S1x1024 32) (k : Fin 1024) (r : ℕ) (hr : r < 4096) (hu : u (ix2 0 k) = BitVec.ofNat 32 r) :
    k0_pay14 (F := Ideal) (dword c) u (ix3 0 0 k) = (((4096 * c.val + r : ℕ) : ℝ) : EReal) := by
  refine (up₃ (sitofp .f32 (addi (shapeCast S1024 u shapeCasts_S1x1024_S1024) (broadcast S1024 (Scalar.muli (dword c) 4096#32))) : FVec Ideal S1024 .f32)
    shapeCasts_S1024_S1x1x1024 k).trans ?_
  rw [sitofp_apply]
  have e : addi (shapeCast S1024 u shapeCasts_S1x1024_S1024) (broadcast S1024 (Scalar.muli (dword c) 4096#32)) (ix1 k)
      = BitVec.ofNat 32 (4096 * c.val + r) := by
    show shapeCast S1024 u shapeCasts_S1x1024_S1024 (ix1 k) + dword c * BitVec.ofNat 32 4096 = _
    rw [down, hu, dword_eq, ← BitVec.ofNat_mul]
    exact (BitVec.ofNat_add r (c.val * 4096)).symm.trans (congrArg _ (by omega))
  rw [e]
  exact row_real _ (by have : c.val < 16 := c.isLt; omega)

/-! ## What a device makes of the sixteen pairs -/

variable (u : FVec Ideal S16x2x1024 .f32) (k : Fin 1024)

/-- Sixteen layers of one row laid out as sixteen rows. -/
theorem flat {α : Type} (x : S16x1x1024.Idx → α) (h : S16x1x1024.ShapeCasts S16x1024) (s : Fin 16) (k : Fin 1024) :
    shapeCast S16x1024 x h (ix2 s k) = x (ix3 s 0 k) :=
  shapeCast_apply x h _ _ (by rw [Shape.rowMajor_val_two, Shape.rowMajor_val_three]; simp)

/-- The maxima among the pairs received, -/
theorem slice_max (s : Fin 16) : k0_pay9 (F := Ideal) u (ix2 s k) = u (ix3 s 0 k) := by
  refine (flat (extractStridedSlice S16x1x1024 ![0, 0, 0] u slices_S16x2x1024_o0_0_0_S16x1x1024) shapeCasts_S16x1x1024_S16x1024 s k).trans ?_
  refine extractStridedSlice_apply _ u _ _ _ fun a => ?_
  match a with
  | ⟨0, _⟩ => exact (Nat.zero_add _).symm
  | ⟨1, _⟩ => rfl
  | ⟨2, _⟩ => exact (Nat.zero_add _).symm

/-- and their rows. -/
theorem slice_row (s : Fin 16) :
    shapeCast S16x1024 (extractStridedSlice S16x1x1024 ![0, 1, 0] u slices_S16x2x1024_o0_1_0_S16x1x1024) shapeCasts_S16x1x1024_S16x1024 (ix2 s k)
      = u (ix3 s 1 k) := by
  refine (flat (extractStridedSlice S16x1x1024 ![0, 1, 0] u slices_S16x2x1024_o0_1_0_S16x1x1024) shapeCasts_S16x1x1024_S16x1024 s k).trans ?_
  refine extractStridedSlice_apply _ u _ _ _ fun a => ?_
  match a with
  | ⟨0, _⟩ => exact (Nat.zero_add _).symm
  | ⟨1, _⟩ => rfl
  | ⟨2, _⟩ => exact (Nat.zero_add _).symm

/-- The greatest of the sixteen maxima. -/
theorem all_max : k0_pay10 (F := Ideal) u (ix1 k) = (Finset.univ : Finset (Fin 16)).fold max ⊥ (fun s => u (ix3 s 0 k)) := by
  refine (max_rows (k0_pay9 (F := Ideal) u) reduces_S16x1024_S1024 (.inl rfl) rfl k).trans ?_
  exact congrArg (Finset.univ.fold max ⊥) (funext fun s => slice_max u k s)

/-- It is the result's first row; -/
theorem out_max : k0_pay11 (F := Ideal) u (ix2 0 k) = (Finset.univ : Finset (Fin 16)).fold max ⊥ (fun s => u (ix3 s 0 k)) :=
  (up (k0_pay10 (F := Ideal) u) shapeCasts_S1024_S1x1024 k).trans (all_max u k)

/-- A row number past the last. -/
theorem past : (FloatOps.ofBits (F := Ideal) .f32 0x47800080#32 : EReal) = ((65537 : ℝ) : EReal) := by
  simp [Ideal.ofBits, Ideal.ieee, -EReal.coe_mul]; norm_num

/-- the second row is the least of the rows of those maxima that equal it. -/
theorem out_row : k0_pay12 (F := Ideal) u (ix2 0 k)
    = (Finset.univ : Finset (Fin 16)).fold min ⊤
        (fun s => if u (ix3 s 0 k) = k0_pay11 (F := Ideal) u (ix2 0 k) then u (ix3 s 1 k) else ((65537 : ℝ) : EReal)) := by
  let b : FVec Ideal S16x1024 .f32 := broadcastTo S16x1024 (k0_pay11 (F := Ideal) u) broadcasts_S1x1024_S16x1024
  let q : FVec Ideal S16x1024 .f32 :=
    shapeCast S16x1024 (extractStridedSlice S16x1x1024 ![0, 1, 0] u slices_S16x2x1024_o0_1_0_S16x1x1024) shapeCasts_S16x1x1024_S16x1024
  let z : FVec Ideal S16x1024 .f32 :=
    select (cmpf .oeq (k0_pay9 (F := Ideal) u) b) q (broadcast S16x1024 (Scalar.ofBits .f32 0x47800080#32))
  have e : k0_pay12 (F := Ideal) u = shapeCast S1x1024 (multiReduction .minimumf [0] S1024 z 0x7F800000#32 reduces_S16x1024_S1024 (.inl rfl) rfl)
      shapeCasts_S1024_S1x1024 := rfl
  rw [e]
  refine (up _ shapeCasts_S1024_S1x1024 k).trans ((min_rows z reduces_S16x1024_S1024 (.inl rfl) rfl k).trans ?_)
  refine congrArg (Finset.univ.fold min ⊤) (funext fun s => ?_)
  have hb : b (ix2 s k) = k0_pay11 (F := Ideal) u (ix2 0 k) :=
    broadcastTo_apply _ broadcasts_S1x1024_S16x1024 (ix2 s k) (ix2 0 k) fun a => by
      match a with
      | ⟨0, _⟩ => rfl
      | ⟨1, _⟩ => rfl
  have hq : q (ix2 s k) = u (ix3 s 1 k) := slice_row u k s
  show Scalar.select (cmpf .oeq (k0_pay9 (F := Ideal) u) b (ix2 s k)) (q (ix2 s k)) (FloatOps.ofBits (F := Ideal) .f32 0x47800080#32) = _
  rw [cmpf_apply, slice_max, hb, past, hq, Ideal.cmpf_def]
  exact WordCmp.select_decide _ _ _

end Cert.ArgmaxProof

end
-- ==== Proof.Exchange.lean ====
/-
What the kernel leaves in the result on every device: the greatest of each column of the whole array, and the first row
that has it.
-/
module

public import proofs.«01_k».proof.Proof.Pairs
public import proofs.«01_k».proof.Proof.Last

@[expose] public section

noncomputable section

namespace Cert.ArgmaxProof

open Cert.KernelIdeal Cert.KernelIdeal.Gen
open Idealize.ShloMosaic hiding ix0 ix1 ix2 ix3
open Idealize.ShloMosaic.TcCoe Idealize.ShloMosaic.ValueIdx

/-! ## Sixteen ranges of rows -/

section Combine
variable {f : ℕ → EReal} {v : EReal} {r : ℕ} {V : Fin 16 → EReal} {R : Fin 16 → ℕ}

/-- The range that holds the first greatest row of the whole has it for its own; no range's greatest is above it, and a
    range that attains it does so no earlier. -/
theorem holder (h : First f 0 65536 v r) (hd : ∀ d : Fin 16, First f (4096 * d.val) (4096 * d.val + 4096) (V d) (R d)) :
    (∃ d, V d = v ∧ R d = r) ∧ (∀ d, V d ≤ v) ∧ ∀ d, V d = v → r ≤ R d := by
  have hr := h.high
  have hb (d : Fin 16) : R d < 65536 := by have := (hd d).high; have := d.isLt; omega
  refine ⟨?_, fun d => (hd d).at_row ▸ h.le _ (Nat.zero_le _) (hb d), fun d e => ?_⟩
  · let d : Fin 16 := ⟨r / 4096, by omega⟩
    have ho : First f (4096 * d.val) (4096 * d.val + 4096) v r :=
      ⟨Nat.mul_div_le r 4096, Nat.lt_mul_div_succ r (by decide), h.at_row,
        fun i _ hi => h.le i (Nat.zero_le _) (by have := d.isLt; omega), fun i _ hi => h.lt i (Nat.zero_le _) hi⟩
    exact ⟨d, (hd d).value ho, (hd d).row ho⟩
  · by_contra hl
    exact absurd ((hd d).at_row.trans e) (h.lt _ (Nat.zero_le _) (not_le.1 hl)).ne

/-- So the greatest of the sixteen maxima, in any order, is the greatest of the whole; -/
theorem combine_max (σ : Fin 16 → Fin 16) (hσ : ∀ d, ∃ s, σ s = d) (h : First f 0 65536 v r)
    (hd : ∀ d : Fin 16, First f (4096 * d.val) (4096 * d.val + 4096) (V d) (R d)) :
    (Finset.univ : Finset (Fin 16)).fold max ⊥ (fun s => V (σ s)) = v := by
  obtain ⟨⟨d, hv, -⟩, hle, -⟩ := holder h hd
  obtain ⟨s, rfl⟩ := hσ d
  exact fold_max_eq _ v (fun s => hle _) s hv

/-- and the least row among the maxima that equal it is the first row of the whole. -/
theorem combine_row (σ : Fin 16 → Fin 16) (hσ : ∀ d, ∃ s, σ s = d) (h : First f 0 65536 v r)
    (hd : ∀ d : Fin 16, First f (4096 * d.val) (4096 * d.val + 4096) (V d) (R d)) :
    (Finset.univ : Finset (Fin 16)).fold min ⊤ (fun s => if V (σ s) = v then ((R (σ s) : ℝ) : EReal) else ((65537 : ℝ) : EReal))
      = ((r : ℝ) : EReal) := by
  obtain ⟨⟨d, hv, hr⟩, -, hle⟩ := holder h hd
  obtain ⟨s, rfl⟩ := hσ d
  refine fold_min_eq _ _ (fun s => ?_) s (by rw [if_pos hv, hr])
  split_ifs with e
  · exact EReal.coe_le_coe_iff.2 (Nat.cast_le.2 (hle _ e))
  · exact EReal.coe_le_coe_iff.2 (by have := h.high; exact_mod_cast (show r ≤ 65537 by omega))

end Combine

/-! ## The result -/

/-- Every device's pair lies in some slot. -/
theorem from_onto (c : Dev nD) (d : Fin 16) : ∃ s, (from_ c s : Fin 16) = d := by revert c d; decide +kernel

section Slots
variable (m : (ℓ : Loc nD τ sig) → Buf (Elt Ideal) ℓ) (c : Dev nD) (s : Fin 16) (k : Fin 1024)

/-- Slot `s` holds the maximum of the device it comes from, -/
theorem slot_max : commF m c (ix3 s 0 k) = accV m (from_ c s) 3 (ix2 0 k) := by
  have e : commF m c (ix3 s 0 k) = rowV m (from_ c s) (ix3 0 0 k) := if_pos rfl
  rw [e]; unfold rowV; exact sent_max (accV m (from_ c s) 3) k
/-- and that maximum's row. -/
theorem slot_row : commF m c (ix3 s 1 k) = rowI m (from_ c s) (ix3 0 0 k) := if_neg Nat.one_ne_zero

end Slots

variable {m : (ℓ : Loc nD τ sig) → Buf (Elt Ideal) ℓ} {k : Fin 1024} {f : ℕ → EReal} {v : EReal} {r : ℕ}

/-- If column `k` of the devices' arguments, one after another, is `f`, every device's result has in column `k` the
    greatest of `f` and the first row that has it. -/
theorem outAt_column (hf : ∀ (d : Dev nD) (i : Fin 4096), m ((d : Thread nD τ).loc main_arg0) (ix2 i k) = f (4096 * d.val + i.val))
    (h : First f 0 65536 v r) (c : Dev nD) :
    outAt m c (ix2 0 k) = v ∧ outAt m c (ix2 1 k) = ((r : ℝ) : EReal) := by
  have dev (d : Fin 16) : ∃ V R, First f (4096 * d.val) (4096 * d.val + 4096) V R ∧ accV m d 3 (ix2 0 k) = V
      ∧ rowI m d (ix3 0 0 k) = ((R : ℝ) : EReal) := by
    obtain ⟨V, R, h1, h2, h3⟩ := acc_first (m := m) (c := d) (k := k) (f := fun i => f (4096 * d.val + i))
      (fun n hn i => (xblk_apply m d n hn i k).trans (hf d _)) 3 (by decide)
    exact ⟨V, _, h1.shift, h2, sent_row d _ k R h1.high h3⟩
  choose V R hd hV hR using dev
  have com_max (s : Fin 16) : commF m c (ix3 s 0 k) = V (from_ c s) := (slot_max m c s k).trans (hV _)
  have com_row (s : Fin 16) : commF m c (ix3 s 1 k) = ((R (from_ c s) : ℝ) : EReal) := (slot_row m c s k).trans (hR _)
  have top : k0_pay11 (F := Ideal) (commF m c) (ix2 0 k) = v := by
    rw [out_max]; simp only [com_max]; exact combine_max (from_ c) (from_onto c) h hd
  refine ⟨top, ?_⟩
  show k0_pay12 (F := Ideal) (commF m c) (ix2 0 k) = _
  rw [out_row, top]; simp only [com_max, com_row]; exact combine_row (from_ c) (from_onto c) h hd

end Cert.ArgmaxProof

end
-- ==== Proof.Column.lean ====
/-
What the reference's result holds: the greatest of each column, and the first row that has it.
-/
module

public import Idealize.ShloMosaic.Lib.ValueIdxCore
public import Idealize.ShloMosaic.Lib.WordCmp
public import Idealize.ShloMosaic.Lib.Pipeline.Value
public import proofs.«01_k».proof.Proof.ArgMax
public import proofs.«01_k».proof.Proof.Pairs
public import proofs.«01_k».proof.Proof.Ref

@[expose] public section

noncomputable section

namespace Cert.ArgmaxProof.Ref

open Cert.ReferenceIdeal Cert.ReferenceIdeal.Gen
open Idealize.ShloMosaic hiding ix1 ix2 ix3
open Idealize.ShloMosaic.ValueIdx

/-! ## One step down a column -/

section Reducer
variable {v w : EReal} {a b : BitVec 32}

/-- If the value so far is greater, the reducer keeps it and its row; -/
theorem reducer_keep (h : w < v) : reducer_argmax_f32_i32 (F := Idealize.ShloMosaic.Ideal) (v, a) (w, b) = (v, a) := by
  simp [reducer_argmax_f32_i32, Ideal.cmpf_def, Ideal.cmp, h, h.ne', IntOp.ori, IntOp.andi, Scalar.select]
/-- if the new one is greater, it takes that and its row; -/
theorem reducer_take (h : v < w) : reducer_argmax_f32_i32 (F := Idealize.ShloMosaic.Ideal) (v, a) (w, b) = (w, b) := by
  simp [reducer_argmax_f32_i32, Ideal.cmpf_def, Ideal.cmp, h.not_gt, h.ne, IntOp.ori, IntOp.andi, Scalar.select]
/-- of two equal values it takes the smaller row. -/
theorem reducer_tie : reducer_argmax_f32_i32 (F := Idealize.ShloMosaic.Ideal) (v, a) (v, b) = (v, if a.slt b then a else b) := by
  cases h : a.slt b <;> simp [reducer_argmax_f32_i32, Ideal.cmpf_def, Ideal.cmp, h, IntOp.ori, IntOp.andi, IntOp.cmpi, Scalar.select]

end Reducer

/-- Row numbers compare as words as they do as numbers. -/
theorem slt_rows {a b : ℕ} (h : a < b) (hb : b < 65536) : (BitVec.ofNat 32 a).slt (BitVec.ofNat 32 b) = true := by
  have e (n : ℕ) (hn : n < 65536) : (BitVec.ofNat 32 n).toInt = (n : ℤ) := by
    rw [BitVec.toInt_eq_toNat_of_lt] <;> rw [BitVec.toNat_ofNat, Nat.mod_eq_of_lt] <;> omega
  rw [BitVec.slt_eq_decide, e a (h.trans hb), e b hb]
  exact decide_eq_true (by exact_mod_cast h)

/-- Down the rows `0, …, n` of `f` the reducer finds the greatest and the first row that has it. -/
theorem fold_first (f : ℕ → EReal) (n : ℕ) (hn : n < 65536) : ∃ v r, First f 0 (n + 1) v r ∧
    (List.range (n + 1)).foldl (fun p i => reducer_argmax_f32_i32 (F := Idealize.ShloMosaic.Ideal) p (f i, BitVec.ofNat 32 i)) (⊥, 0#32)
      = (v, BitVec.ofNat 32 r) := by
  induction n with
  | zero =>
    refine ⟨_, _, First.one f 0, ?_⟩
    show reducer_argmax_f32_i32 (F := Idealize.ShloMosaic.Ideal) (⊥, 0#32) (f 0, BitVec.ofNat 32 0) = _
    rcases (bot_le (a := f 0)).eq_or_lt with h | h
    · rw [← h, reducer_tie, ite_self]
    · exact reducer_take h
  | succ n ih =>
    obtain ⟨v, r, h, e⟩ := ih (by omega)
    have h1 := First.one f (n + 1)
    rw [List.range_succ, List.foldl_append, e]
    show ∃ v' r', _ ∧ reducer_argmax_f32_i32 (F := Idealize.ShloMosaic.Ideal) (v, BitVec.ofNat 32 r) (f (n + 1), BitVec.ofNat 32 (n + 1)) = _
    rcases lt_trichotomy (f (n + 1)) v with hl | hl | hl
    · exact ⟨v, r, h.earlier h1 hl.le, reducer_keep hl⟩
    · exact ⟨v, r, h.earlier h1 hl.le, by rw [hl, reducer_tie, if_pos (slt_rows h.high hn)]⟩
    · exact ⟨_, _, h.later h1 hl, reducer_take hl⟩

/-! ## The result -/

variable {x : FVec Idealize.ShloMosaic.Ideal S65536x1024 .f32} {k : Fin 1024} {f : ℕ → EReal} {v : EReal} {r : ℕ}

/-- The reduction leaves one number a column. -/
theorem reduces : S65536x1024.Reduces [0] S1024 := by decide

/-- The first greatest of a column, as the reducer finds it. -/
theorem pairs_column (hf : ∀ i : Fin 65536, x (ix2 i k) = f i.val) (h : First f 0 65536 v r) :
    pairs x (ix1 k) = (v, BitVec.ofNat 32 r) := by
  obtain ⟨v', r', h', e⟩ := fold_first f 65535 (by decide)
  rw [h.value h', h.row h', ← e]
  unfold pairs
  rw [Ideal.argReduce_eq_reduce2]
  have e₀ : (constant (F := Idealize.ShloMosaic.Ideal) S_ .f32 0xFF800000#32) (Shape.Idx.first h_S_) = (⊥ : EReal) := neg_inf
  refine Eq.trans (b := reduceFold reduces (reducer_argmax_f32_i32 (F := Idealize.ShloMosaic.Ideal)) (⊥, 0#32)
    (fun i => (x i, iotaInDim S65536x1024 32 0 i)) (ix1 k)) ?_ ?_
  · rw [← e₀]; rfl
  · rw [reduceFold_rows, ← List.map_coe_finRange_eq_range, List.foldl_map]
    have e₁ (i : Fin 65536) : (Shape.pair (d := ![65536, 1024]) i (reduces.col (ix1 k))) = ix2 i k := funext fun b => by
      match b with
      | ⟨0, _⟩ => rfl
      | ⟨1, _⟩ => rfl
    refine congrArg (fun g : EReal × BitVec 32 → Fin 65536 → EReal × BitVec 32 => List.foldl g (⊥, 0#32) (List.finRange 65536))
      (funext fun p => funext fun i => congrArg (reducer_argmax_f32_i32 (F := Idealize.ShloMosaic.Ideal) p) (Prod.ext ?_ rfl))
    exact (congrArg x (e₁ i)).trans (hf i)

/-- The greatest of a column. -/
theorem greatest_column (hf : ∀ i : Fin 65536, x (ix2 i k) = f i.val) (h : First f 0 65536 v r) : greatest x (ix1 k) = v := by
  unfold greatest
  have e₀ : (constant (F := Idealize.ShloMosaic.Ideal) S_ .f32 0xFF800000#32) (Shape.Idx.first h_S_) = (⊥ : EReal) := neg_inf
  refine (Host.reduce_eq_fold_single _ x _ reducesTo_S65536x1024_S1024_d0 reduces h_S_ (ix1 k)).trans ?_
  rw [e₀]
  refine fold_max_eq _ v (fun i => ?_) ⟨r, h.high⟩ ?_
  · exact ((congrArg x (lift_rows reduces k i)).trans (hf i)).trans_le (h.le _ (Nat.zero_le _) i.isLt)
  · exact ((congrArg x (lift_rows reduces k ⟨r, h.high⟩)).trans (hf ⟨r, h.high⟩)).trans h.at_row

/-- The upper row of the result is the first of the two stacked. -/
theorem stack_top (p q : FVec Idealize.ShloMosaic.Ideal S1024 .f32) (k : Fin 1024) : stack p q (ix2 0 k) = p (ix1 k) := by
  refine (concatenate_pair_apply_left 0 _ _ concatenates_S1x1024_S1x1024_S2x1024_d0 (ix2 0 k) rfl (ix2 0 k) fun b => ?_).trans ?_
  · match b with
    | ⟨0, _⟩ => rfl
    | ⟨1, _⟩ => rfl
  · exact broadcastInDim_apply _ bcast_S1024_S1x1024_1 p _ (ix1 k) fun a => by match a with | ⟨0, _⟩ => rfl
/-- The lower row is the second. -/
theorem stack_below (p q : FVec Idealize.ShloMosaic.Ideal S1024 .f32) (k : Fin 1024) : stack p q (ix2 1 k) = q (ix1 k) := by
  refine (concatenate_pair_apply_right 0 _ _ concatenates_S1x1024_S1x1024_S2x1024_d0 (ix2 1 k) rfl rfl (ix2 0 k) (fun b hb => ?_) rfl).trans ?_
  · match b with
    | ⟨0, _⟩ => exact absurd rfl hb
    | ⟨1, _⟩ => rfl
  · exact broadcastInDim_apply _ bcast_S1024_S1x1024_1 q _ (ix1 k) fun a => by match a with | ⟨0, _⟩ => rfl

/-- If column `k` of the argument is `f`, the reference's result has in column `k` the greatest of `f` and the first row
    that has it. -/
theorem out_column (hf : ∀ i : Fin 65536, x (ix2 i k) = f i.val) (h : First f 0 65536 v r) :
    out x (ix2 0 k) = v ∧ out x (ix2 1 k) = ((r : ℝ) : EReal) := by
  refine ⟨(stack_top _ _ k).trans (greatest_column hf h), (stack_below _ _ k).trans ?_⟩
  rw [sitofp_apply, pairs_column hf h]
  exact row_real r h.high

end Cert.ArgmaxProof.Ref

end
-- ==== Proof.Equation.lean ====
/-
The equation: what every device's result array holds after the kernel is what the reference computes of the whole array.
-/
module

public import proofs.«01_k».proof.Proof.Exchange
public import proofs.«01_k».proof.Proof.Column
public import proofs.«01_k».proof.Proof.Launch
public import Idealize.ShloMosaic.Lib.Layout

@[expose] public section

noncomputable section

namespace Cert.ArgmaxProof

open Cert.KernelIdeal Cert.KernelIdeal.Gen
open Idealize.ShloMosaic hiding ix0 ix1 ix2 ix3
open Idealize.ShloMosaic.TcCoe Idealize.ShloMosaic.ValueIdx

/-- The result array after the run holds what the last step's body left: it is written back once, whole, after that step. -/
theorem finalA_out {F : FTy → Type} [FloatOps F] (m : (ℓ : Loc nD τ sig) → Buf (Elt F) ℓ) (ρ : Dev nD → PrngReg) (c : Dev nD) :
    finalA m ρ c (1 : Fin 2) = outAt m c := by
  refine (dats m ρ 0 c).arrAt_eq_of_after_last 1 (tN 3) (by decide +kernel : win0_1.WholeAt (tN 3)) _ fun j => ?_
  rfl

/-- If the devices' arguments are the blocks of `X`, every device's result is the reference's of `X`. -/
theorem outAt_eq (m : (ℓ : Loc nD τ sig) → Buf (Elt Ideal) ℓ) (X : FVec Ideal ⟨2, ![65536, 1024]⟩ .f32)
    (hX : ∀ c : Dev nD, m ((c : Thread nD τ).loc main_arg0) = Layout.block ⟨2, ![4096, 1024]⟩ ⟨2, ![65536, 1024]⟩ 0 16 c X) (c : Dev nD) :
    outAt m c = Ref.out X := by
  funext j
  obtain ⟨v, r, h⟩ := First.exists (fun i => if hi : i < 65536 then X (ix2 ⟨i, hi⟩ (j 1)) else ⊥) 0 65535
  have hk := outAt_column (m := m) (k := j 1) (fun d i => ?_) h c
  have hr := Ref.out_column (x := X) (k := j 1) (fun i => by rw [dif_pos i.isLt]) h
  · have e : j = ix2 0 (j 1) ∨ j = ix2 1 (j 1) := by
      have h0 : (j 0).val = 0 ∨ (j 0).val = 1 := by have : (j 0).val < 2 := (j 0).isLt; omega
      refine h0.imp (fun h => funext fun a => ?_) (fun h => funext fun a => ?_) <;>
        match a with
        | ⟨0, _⟩ => exact Fin.ext h
        | ⟨1, _⟩ => rfl
    rcases e with e | e <;> rw [e]
    · exact hk.1.trans hr.1.symm
    · exact hk.2.trans hr.2.symm
  · have hd : d.val < 16 := d.isLt
    have hi : 4096 * d.val + i.val < 65536 := by have := i.isLt; omega
    show _ = dite _ _ _
    rw [dif_pos hi, hX d, Layout.block_apply]
    refine congrArg X (funext fun a => Fin.ext ?_)
    rw [Layout.Tiles.idx_val]
    match a with
    | ⟨0, _⟩ => exact congrArg (· + i.val) (Nat.mul_comm d.val 4096)
    | ⟨1, _⟩ => rfl

end Cert.ArgmaxProof

end
-- ==== Proof.lean ====
/-
The claims about the arg-max over sixteen devices, put together: the frames from the runs of the two programs, and the
equation of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_tie_Kernel
public import proofs.«01_k».proof.Proof.Gen.Pre_no_tie_ReferenceIdeal
public import proofs.«01_k».proof.Proof.Launch
public import proofs.«01_k».proof.Proof.Ref
public import proofs.«01_k».proof.Proof.Equation

@[expose] public section

noncomputable section

namespace Cert.Proof

open Idealize.ShloMosaic Idealize.SL.Sem Cert.ArgmaxProof

attribute [local instance] Cert.Kernel.Gen.facts Cert.KernelIdeal.Gen.facts Cert.ReferenceIdeal.Gen.facts
  Cert.Pre_no_tie_Kernel.Gen.facts Cert.Pre_no_tie_ReferenceIdeal.Gen.facts

/-- The kernel's functions are the same under either of its two names; -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- so are its launches. -/
theorem defs_eq : Cert.Kernel.defs (F := Bits) = Cert.KernelIdeal.defs (F := Bits) := congrArg (Pipeline.defs _) bodies_eq

/-- The kernel keeps its argument and ends with every counter at zero, for any float values. -/
theorem keeps {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (finalA_in m ρ c), h.2⟩) (run_main m ρ)

/-- The kernel on the machine's floats. -/
theorem frame_kernel : Cert.quiescent_Kernel := fun m ρ _ => by
  rw [defs_eq]; exact keeps (F := Bits) m ρ

theorem frame_kernel_no_tie : Cert.quiescent_Kernel_pre_no_tie_Kernel := fun m ρ _ => frame_kernel m ρ trivial

/-- The kernel on extended reals. -/
theorem frame_kernelIdeal : Cert.quiescent_KernelIdeal := fun m ρ _ => keeps (F := Ideal) m ρ

theorem frame_reference : Cert.quiescent_ReferenceIdeal := fun m ρ _ =>
  (θ_run Cert.ReferenceIdeal.defs _ _).mono (fun _ h => ⟨fun c => (h.1 c).2, h.2⟩) (Ref.run_main (F := Ideal) m ρ)

theorem frame_reference_no_tie : Cert.quiescent_ReferenceIdeal_pre_no_tie_ReferenceIdeal := fun m ρ _ =>
  (θ_run Cert.ReferenceIdeal.defs _ _).mono (fun _ h => ⟨fun c => (h.1 c).2, h.2⟩) (Ref.run_main (F := Ideal) m ρ)

/-- The two programs' results are equal when the devices' arguments are the blocks of the reference's. -/
theorem results_equal : Cert.algebraic_KernelIdeal_ReferenceIdeal := fun m g m' g' _ hX => by
  refine ⟨Ref.out (F := Ideal)
      (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c =>
      ⟨(h.1 c (1 : Fin 2)).trans ((finalA_out m g c).trans (outAt_eq m _ hX c)), (h.1 c (0 : Fin 2)).trans (finalA_in m g c)⟩)
      (run_main (F := Ideal) m g)
  · exact (θ_run Cert.ReferenceIdeal.defs _ _).mono (fun _ h => h.1 0) (Ref.run_main (F := Ideal) m' g')

theorem claim : Cert.Claim := ⟨Cert.Kernel.Gen.facts, Cert.KernelIdeal.Gen.facts, Cert.ReferenceIdeal.Gen.facts,
  Cert.Pre_no_tie_Kernel.Gen.facts, Cert.Pre_no_tie_ReferenceIdeal.Gen.facts,
  frame_kernel, frame_kernel_no_tie, frame_kernelIdeal, frame_reference, frame_reference_no_tie, trivial, results_equal⟩

end Cert.Proof

end
